-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.blockN ⟨4, ![4, 256, 16, 64]⟩ ⟨4, ![4, 512, 16, 64]⟩ (Layout.meshBlock [2, 4, 4] ![[], [0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![4, 256, 16, 64]⟩ ⟨4, ![4, 512, 16, 64]⟩ (Layout.meshBlock [2, 4, 4] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![4, 256, 16, 64]⟩ ⟨4, ![4, 512, 16, 64]⟩ (Layout.meshBlock [2, 4, 4] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = Layout.blockN ⟨4, ![4, 256, 16, 64]⟩ ⟨4, ![4, 512, 16, 64]⟩ (Layout.meshBlock [2, 4, 4] ![[], [0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S4x256x16x64 : Shape := ⟨4, ![4, 256, 16, 64]⟩
abbrev S_ : Shape := ⟨0, ![]⟩

class Facts : Prop where
  bcast_S_S4x256x16x64 : S_.BroadcastsInDim S4x256x16x64 (![] : Fin 0 → Fin S4x256x16x64.rank)
  reducesTo_S4x256x16x64_S_d0_1_2_3 : S4x256x16x64.ReducesTo [0, 1, 2, 3] S_
  h_S_ : 0 < S_.numel

variable [Facts]

def fn {F : FTy → Type} [FloatOps F] (main_arg0 : FVec F S4x256x16x64 .f32) (main_arg1 : FVec F S4x256x16x64 .f32) (main_arg2 : FVec F S4x256x16x64 .f32) : IVec S_ 1 :=
  let main_v0 : FVec F S4x256x16x64 .f32 := Host.absf main_arg0
  let main_cst : FVec F S_ .f32 := constant S_ .f32 0x7F800000#32
  let main_v1 : FVec F S4x256x16x64 .f32 := broadcastInDim S4x256x16x64 ![] bcast_S_S4x256x16x64 main_cst
  let main_v2 : IVec S4x256x16x64 1 := cmpf .olt main_v0 main_v1
  let main_c : IVec S_ 1 := constantI S_ 1 1#1
  let main_v3 : IVec S_ 1 := (fun x v => Host.reduce IntOp.andi x v reducesTo_S4x256x16x64_S_d0_1_2_3 h_S_) main_v2 main_c
  let main_v4 : FVec F S4x256x16x64 .f32 := Host.absf main_arg1
  let main_cst_0 : FVec F S_ .f32 := constant S_ .f32 0x7F800000#32
  let main_v5 : FVec F S4x256x16x64 .f32 := broadcastInDim S4x256x16x64 ![] bcast_S_S4x256x16x64 main_cst_0
  let main_v6 : IVec S4x256x16x64 1 := cmpf .olt main_v4 main_v5
  let main_c_1 : IVec S_ 1 := constantI S_ 1 1#1
  let main_v7 : IVec S_ 1 := (fun x v => Host.reduce IntOp.andi x v reducesTo_S4x256x16x64_S_d0_1_2_3 h_S_) main_v6 main_c_1
  let main_v8 : IVec S_ 1 := andi main_v3 main_v7
  main_v8
-- ==== Pre_finite_ReferenceIdeal.lean ====
abbrev S4x512x16x64 : Shape := ⟨4, ![4, 512, 16, 64]⟩
abbrev S_ : Shape := ⟨0, ![]⟩

class Facts : Prop where
  bcast_S_S4x512x16x64 : S_.BroadcastsInDim S4x512x16x64 (![] : Fin 0 → Fin S4x512x16x64.rank)
  reducesTo_S4x512x16x64_S_d0_1_2_3 : S4x512x16x64.ReducesTo [0, 1, 2, 3] S_
  h_S_ : 0 < S_.numel

variable [Facts]

def fn {F : FTy → Type} [FloatOps F] (main_arg0 : FVec F S4x512x16x64 .f32) (main_arg1 : FVec F S4x512x16x64 .f32) (main_arg2 : FVec F S4x512x16x64 .f32) : IVec S_ 1 :=
  let main_v0 : FVec F S4x512x16x64 .f32 := Host.absf main_arg0
  let main_cst : FVec F S_ .f32 := constant S_ .f32 0x7F800000#32
  let main_v1 : FVec F S4x512x16x64 .f32 := broadcastInDim S4x512x16x64 ![] bcast_S_S4x512x16x64 main_cst
  let main_v2 : IVec S4x512x16x64 1 := cmpf .olt main_v0 main_v1
  let main_c : IVec S_ 1 := constantI S_ 1 1#1
  let main_v3 : IVec S_ 1 := (fun x v => Host.reduce IntOp.andi x v reducesTo_S4x512x16x64_S_d0_1_2_3 h_S_) main_v2 main_c
  let main_v4 : FVec F S4x512x16x64 .f32 := Host.absf main_arg1
  let main_cst_0 : FVec F S_ .f32 := constant S_ .f32 0x7F800000#32
  let main_v5 : FVec F S4x512x16x64 .f32 := broadcastInDim S4x512x16x64 ![] bcast_S_S4x512x16x64 main_cst_0
  let main_v6 : IVec S4x512x16x64 1 := cmpf .olt main_v4 main_v5
  let main_c_1 : IVec S_ 1 := constantI S_ 1 1#1
  let main_v7 : IVec S_ 1 := (fun x v => Host.reduce IntOp.andi x v reducesTo_S4x512x16x64_S_d0_1_2_3 h_S_) main_v6 main_c_1
  let main_v8 : IVec S_ 1 := andi main_v3 main_v7
  main_v8
-- ==== Kernel.lean ====
abbrev S4x256x16x64 : Shape := ⟨4, ![4, 256, 16, 64]⟩
abbrev S4x256x1024 : Shape := ⟨3, ![4, 256, 1024]⟩
abbrev S4x256x16 : Shape := ⟨3, ![4, 256, 16]⟩
abbrev S10 : Shape := ⟨1, ![10]⟩
abbrev S4 : Shape := ⟨1, ![4]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩
abbrev S1x128x1024 : Shape := ⟨3, ![1, 128, 1024]⟩
abbrev S128x1024 : Shape := ⟨2, ![128, 1024]⟩
abbrev S1x256x64 : Shape := ⟨3, ![1, 256, 64]⟩
abbrev S256x64 : Shape := ⟨2, ![256, 64]⟩
abbrev S256x256 : Shape := ⟨2, ![256, 256]⟩
abbrev S256 : Shape := ⟨1, ![256]⟩
abbrev S256x1 : Shape := ⟨2, ![256, 1]⟩
abbrev S1x256x1 : Shape := ⟨3, ![1, 256, 1]⟩
abbrev S1x128x64 : Shape := ⟨3, ![1, 128, 64]⟩
abbrev S128x64 : Shape := ⟨2, ![128, 64]⟩
abbrev S256x128 : Shape := ⟨2, ![256, 128]⟩

abbrev nBuf : Space → Nat
  | .hbm => 11
  | .vmem => 8
  | .smem => 0
  | _ => 0

abbrev bufTy : (tb : Table) → Fin (tcTables nBuf tb) → BufTy
  | .hbm, ⟨0, _⟩ => ⟨S4x256x16x64, .f32⟩
  | .hbm, ⟨1, _⟩ => ⟨S4x256x16x64, .f32⟩
  | .hbm, ⟨2, _⟩ => ⟨S4x256x16x64, .f32⟩
  | .hbm, ⟨3, _⟩ => ⟨S4x256x16x64, .bf16⟩
  | .hbm, ⟨4, _⟩ => ⟨S4x256x1024, .bf16⟩
  | .hbm, ⟨5, _⟩ => ⟨S4x256x16x64, .bf16⟩
  | .hbm, ⟨6, _⟩ => ⟨S4x256x1024, .bf16⟩
  | .hbm, ⟨7, _⟩ => ⟨S4x256x16x64, .bf16⟩
  | .hbm, ⟨8, _⟩ => ⟨S4x256x1024, .bf16⟩
  | .hbm, ⟨9, _⟩ => ⟨S4x256x1024, .bf16⟩
  | .hbm, ⟨10, _⟩ => ⟨S4x256x16x64, .bf16⟩
  | .local _ .vmem, ⟨0, _⟩ => ⟨S4x256x1024, .bf16⟩
  | .local _ .vmem, ⟨1, _⟩ => ⟨S4x256x1024, .bf16⟩
  | .local _ .vmem, ⟨2, _⟩ => ⟨S4x256x1024, .bf16⟩
  | .local _ .vmem, ⟨3, _⟩ => ⟨S4x256x1024, .bf16⟩
  | .local _ .vmem, ⟨4, _⟩ => ⟨S4x256x1024, .bf16⟩
  | .local _ .vmem, ⟨5, _⟩ => ⟨S4x256x16, .f32⟩
  | .local _ .vmem, ⟨6, _⟩ => ⟨S4x256x1024, .f32⟩
  | .local _ .vmem, ⟨7, _⟩ => ⟨S4x256x1024, .bf16⟩
  | _, _ => ⟨S4x256x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_13 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_12 : BitVec 32 := 16#32
  let v17 : BitVec 32 := Scalar.muli v9 c16_i32_12
  let v18 : BitVec 32 := Scalar.addi c0_i32_13 v17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_14 : BitVec 32 := 4#32
  let v19 : BitVec 32 := Scalar.muli v5 c4_i32_14
  let v20 : BitVec 32 := Scalar.addi v18 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v21 : BitVec 32 := Scalar.muli v8 c1_i32_15
  let v22 : BitVec 32 := Scalar.addi v20 v21
  v22.toNat
def k0_dev3 (d0 : Dev nD) : Nat :=
  let c0_i32_25 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_24 : BitVec 32 := 16#32
  let v31 : BitVec 32 := Scalar.muli v9 c16_i32_24
  let v32 : BitVec 32 := Scalar.addi c0_i32_25 v31
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_26 : BitVec 32 := 4#32
  let v33 : BitVec 32 := Scalar.muli v5 c4_i32_26
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_27 : BitVec 32 := 1#32
  let v35 : BitVec 32 := Scalar.muli v8 c1_i32_27
  let v36 : BitVec 32 := Scalar.addi v34 v35
  v36.toNat
def k0_dev4 (d0 : Dev nD) : Nat :=
  let c0_i32_37 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_36 : BitVec 32 := 16#32
  let v45 : BitVec 32 := Scalar.muli v9 c16_i32_36
  let v46 : BitVec 32 := Scalar.addi c0_i32_37 v45
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_38 : BitVec 32 := 4#32
  let v47 : BitVec 32 := Scalar.muli v5 c4_i32_38
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v49 : BitVec 32 := Scalar.muli v8 c1_i32_39
  let v50 : BitVec 32 := Scalar.addi v48 v49
  v50.toNat
def k0_dev5 (d0 : Dev nD) : Nat :=
  let c0_i32_48 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_47 : BitVec 32 := 16#32
  let v59 : BitVec 32 := Scalar.muli v9 c16_i32_47
  let v60 : BitVec 32 := Scalar.addi c0_i32_48 v59
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_49 : BitVec 32 := 4#32
  let v61 : BitVec 32 := Scalar.muli v5 c4_i32_49
  let v62 : BitVec 32 := Scalar.addi v60 v61
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_50 : BitVec 32 := 1#32
  let v63 : BitVec 32 := Scalar.muli v8 c1_i32_50
  let v64 : BitVec 32 := Scalar.addi v62 v63
  v64.toNat
def k0_dev6 (d0 : Dev nD) : Nat :=
  let c0_i32_60 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_59 : BitVec 32 := 16#32
  let v73 : BitVec 32 := Scalar.muli v9 c16_i32_59
  let v74 : BitVec 32 := Scalar.addi c0_i32_60 v73
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_61 : BitVec 32 := 4#32
  let v75 : BitVec 32 := Scalar.muli v5 c4_i32_61
  let v76 : BitVec 32 := Scalar.addi v74 v75
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_62 : BitVec 32 := 1#32
  let v77 : BitVec 32 := Scalar.muli v8 c1_i32_62
  let v78 : BitVec 32 := Scalar.addi v76 v77
  v78.toNat
def k0_dev7 (d0 : Dev nD) : Nat :=
  let c0_i32_71 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_70 : BitVec 32 := 16#32
  let v87 : BitVec 32 := Scalar.muli v9 c16_i32_70
  let v88 : BitVec 32 := Scalar.addi c0_i32_71 v87
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_72 : BitVec 32 := 4#32
  let v89 : BitVec 32 := Scalar.muli v5 c4_i32_72
  let v90 : BitVec 32 := Scalar.addi v88 v89
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v91 : BitVec 32 := Scalar.muli v8 c1_i32_73
  let v92 : BitVec 32 := Scalar.addi v90 v91
  v92.toNat
def k0_dev8 (d0 : Dev nD) : Nat :=
  let c0_i32_82 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_81 : BitVec 32 := 16#32
  let v101 : BitVec 32 := Scalar.muli v9 c16_i32_81
  let v102 : BitVec 32 := Scalar.addi c0_i32_82 v101
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_83 : BitVec 32 := 4#32
  let v103 : BitVec 32 := Scalar.muli v5 c4_i32_83
  let v104 : BitVec 32 := Scalar.addi v102 v103
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_84 : BitVec 32 := 1#32
  let v105 : BitVec 32 := Scalar.muli v8 c1_i32_84
  let v106 : BitVec 32 := Scalar.addi v104 v105
  v106.toNat
def k0_dev9 (d0 : Dev nD) : Nat :=
  let c0_i32_93 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_92 : BitVec 32 := 16#32
  let v115 : BitVec 32 := Scalar.muli v9 c16_i32_92
  let v116 : BitVec 32 := Scalar.addi c0_i32_93 v115
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_94 : BitVec 32 := 4#32
  let v117 : BitVec 32 := Scalar.muli v5 c4_i32_94
  let v118 : BitVec 32 := Scalar.addi v116 v117
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_95 : BitVec 32 := 1#32
  let v119 : BitVec 32 := Scalar.muli v8 c1_i32_95
  let v120 : BitVec 32 := Scalar.addi v118 v119
  v120.toNat
def k0_dev10 (d0 : Dev nD) : Nat :=
  let c0_i32_104 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_103 : BitVec 32 := 16#32
  let v129 : BitVec 32 := Scalar.muli v9 c16_i32_103
  let v130 : BitVec 32 := Scalar.addi c0_i32_104 v129
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_105 : BitVec 32 := 4#32
  let v131 : BitVec 32 := Scalar.muli v5 c4_i32_105
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v133 : BitVec 32 := Scalar.muli v8 c1_i32_106
  let v134 : BitVec 32 := Scalar.addi v132 v133
  v134.toNat
def k0_dev11 (d0 : Dev nD) : Nat :=
  let c0_i32_114 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_113 : BitVec 32 := 16#32
  let v143 : BitVec 32 := Scalar.muli v9 c16_i32_113
  let v144 : BitVec 32 := Scalar.addi c0_i32_114 v143
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_115 : BitVec 32 := 4#32
  let v145 : BitVec 32 := Scalar.muli v5 c4_i32_115
  let v146 : BitVec 32 := Scalar.addi v144 v145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_116 : BitVec 32 := 1#32
  let v147 : BitVec 32 := Scalar.muli v8 c1_i32_116
  let v148 : BitVec 32 := Scalar.addi v146 v147
  v148.toNat
abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x512x16x64 : Shape := ⟨4, ![4, 512, 16, 64]⟩
abbrev S4x16x512x512 : Shape := ⟨4, ![4, 16, 512, 512]⟩
abbrev S_ : Shape := ⟨0, ![]⟩
abbrev S4x16x512 : Shape := ⟨3, ![4, 16, 512]⟩
abbrev S4x16x512x1 : Shape := ⟨4, ![4, 16, 512, 1]⟩
abbrev S4x16x64x512 : Shape := ⟨4, ![4, 16, 64, 512]⟩

abbrev nBuf : Space → Nat
  | .hbm => 21
  | .vmem => 0
  | .smem => 0
  | _ => 0

abbrev bufTy : (tb : Table) → Fin (tcTables nBuf tb) → BufTy
  | .hbm, ⟨0, _⟩ => ⟨S4x512x16x64, .f32⟩
  | .hbm, ⟨1, _⟩ => ⟨S4x512x16x64, .f32⟩
  | .hbm, ⟨2, _⟩ => ⟨S4x512x16x64, .f32⟩
  | .hbm, ⟨3, _⟩ => ⟨S4x16x512x512, .f32⟩
  | .hbm, ⟨4, _⟩ => ⟨S_, .f32⟩
  | .hbm, ⟨5, _⟩ => ⟨S4x16x512x512, .f32⟩
  | .hbm, ⟨6, _⟩ => ⟨S4x16x512x512, .f32⟩
  | .hbm, ⟨7, _⟩ => ⟨S_, .f32⟩
  | .hbm, ⟨8, _⟩ => ⟨S4x16x512, .f32⟩
  | .hbm, ⟨9, _⟩ => ⟨S4x16x512x1, .f32⟩
  | .hbm, ⟨10, _⟩ => ⟨S4x16x512x512, .f32⟩
  | .hbm, ⟨11, _⟩ => ⟨S4x16x512x512, .f32⟩
  | .hbm, ⟨12, _⟩ => ⟨S4x16x512x512, .f32⟩
  | .hbm, ⟨13, _⟩ => ⟨S_, .f32⟩
  | .hbm, ⟨14, _⟩ => ⟨S4x16x512, .f32⟩
  | .hbm, ⟨15, _⟩ => ⟨S4x16x512x1, .f32⟩
  | .hbm, ⟨16, _⟩ => ⟨S4x16x512x512, .f32⟩
  | .hbm, ⟨17, _⟩ => ⟨S4x16x512x512, .f32⟩
  | .hbm, ⟨18, _⟩ => ⟨S4x16x64x512, .f32⟩
  | .hbm, ⟨19, _⟩ => ⟨S4x512x16x64, .f32⟩
  | .hbm, ⟨20, _⟩ => ⟨S4x512x16x64, .bf16⟩
  | _, _ => ⟨S4x512x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Prog.lean ====
/- The kernel's body as loops over head blocks and transfers. The printed body is the same program with every
   loop written out; `body_eq` states it, by definitional unfolding. -/
module

public import proofs.«01_k».proof.Proof.Gen.KernelIdeal.Frame
public import Idealize.ShloMosaic.Lib.Tactic

@[expose] public section

noncomputable section

namespace Cert.KernelIdeal.Pair

open Idealize.ShloMosaic Idealize.SL.Sem
open Facts₀ Facts

variable {F : FTy → Type} [FloatOps F]

/-! ## A loop written out -/

/-- Run `f 0`, `f 1`, …, `f (n - 1)` in order. -/
def seqFin {E : Type → Type} : (n : ℕ) → (Fin n → Prog E PUnit) → Prog E PUnit
  | 0, _ => pure ⟨⟩
  | n + 1, f => f 0 >>= fun _ => seqFin n fun i => f i.succ

/-! ## The buffers -/

abbrev qM : Memref sig .tc .vmem S4x256x1024 .bf16 := Memref.whole cc0_stg0_0
abbrev kM : Memref sig .tc .vmem S4x256x1024 .bf16 := Memref.whole cc0_stg1_0
abbrev vM : Memref sig .tc .vmem S4x256x1024 .bf16 := Memref.whole cc0_stg2_0
abbrev oM : Memref sig .tc .hbm S4x256x1024 .bf16 := Memref.whole main_v7
abbrev kpM : Memref sig .tc .vmem S4x256x1024 .bf16 := Memref.whole cc0_scratch0
abbrev vpM : Memref sig .tc .vmem S4x256x1024 .bf16 := Memref.whole cc0_scratch1
abbrev lM : Memref sig .tc .vmem S4x256x16 .f32 := Memref.whole cc0_scratch2
abbrev aM : Memref sig .tc .vmem S4x256x1024 .f32 := Memref.whole cc0_scratch3
abbrev gM : Memref sig .tc .vmem S4x256x1024 .bf16 := Memref.whole cc0_scratch4

/-! ## Head blocks: block `n` is batch row `n / 16`, head `n % 16` -/

theorem inbH (n : Fin 64) : ∀ a, (![n / 16, 0, 64 * (n % 16)] : Fin 3 → ℕ) a + S1x256x64.size a ≤ S4x256x1024.size a := by
  have hn := n.2
  intro a; fin_cases a
  · show n.1 / 16 + 1 ≤ 4; omega
  · show 0 + 256 ≤ 256; omega
  · show 64 * (n.1 % 16) + 64 ≤ 1024; omega

theorem inbL (n : Fin 64) : ∀ a, (![n / 16, 0, n % 16] : Fin 3 → ℕ) a + S1x256x1.size a ≤ S4x256x16.size a := by
  have hn := n.2
  intro a; fin_cases a
  · show n.1 / 16 + 1 ≤ 4; omega
  · show 0 + 256 ≤ 256; omega
  · show n.1 % 16 + 1 ≤ 16; omega

/-- Half a head block of the last batch row: rows `128 j` to `128 j + 127`. -/
theorem inbC (j : Fin 2) (h : Fin 16) :
    ∀ a, (![3, 128 * j, 64 * h] : Fin 3 → ℕ) a + S1x128x64.size a ≤ S4x256x1024.size a := by
  have hj := j.2
  have hh := h.2
  intro a; fin_cases a
  · show 3 + 1 ≤ 4; omega
  · show 128 * j.1 + 128 ≤ 256; omega
  · show 64 * h.1 + 64 ≤ 1024; omega

abbrev rH (n : Fin 64) : Rect S4x256x1024 := Rect.unit (s := S4x256x1024) ![n / 16, 0, 64 * (n % 16)] S1x256x64.size (inbH n)
abbrev rL (n : Fin 64) : Rect S4x256x16 := Rect.unit (s := S4x256x16) ![n / 16, 0, n % 16] S1x256x1.size (inbL n)
abbrev rC (j : Fin 2) (h : Fin 16) : Rect S4x256x1024 := Rect.unit (s := S4x256x1024) ![3, 128 * j, 64 * h] S1x128x64.size (inbC j h)

theorem packedH (n : Fin 64) : (rH n).PackedRows (EltTy.packing .bf16) :=
  .inr ⟨by decide, rfl, .inl ⟨⟨0, rfl⟩, ⟨128, rfl⟩⟩⟩

local notation "ℙ" => Prog (TpuEff nD τ sig (Elt F) Λ₀ Proc.tc)

/-! ## What a head block computes -/

/-- The exponentials of a head's scaled products of 256 queries with 256 keys. -/
def expo (q k : Vec F S1x256x64 .bf16) : FVec F S256x256 .f32 :=
  exp (mulf (matmul dot_S256x64_S256x64_S256x256_1_1_0_0_n_n none (shapeCast S256x64 q shapeCasts_S1x256x64_S256x64)
    (shapeCast S256x64 k shapeCasts_S1x256x64_S256x64) (constant S256x256 .f32 0x00000000#32))
    (broadcast S256x256 (Scalar.ofBits .f32 0x3E000000#32)))
/-- Their sums over the keys. -/
def rsum (q k : Vec F S1x256x64 .bf16) : FVec F S256x1 .f32 :=
  shapeCast S256x1 (multiReduction .add [1] S256 (expo q k) 0x00000000#32 reduces_S256x256_S256 (.inl rfl) rfl) shapeCasts_S256_S256x1
/-- The values weighted by them. -/
def wsum (q k v : Vec F S1x256x64 .bf16) : FVec F S256x64 .f32 :=
  matmul dot_S256x256_S256x64_S256x64_1_0_0_1_n_n none (truncf .bf16 (expo q k) bitsLt_bf16_f32)
    (shapeCast S256x64 v shapeCasts_S1x256x64_S256x64) (constant S256x64 .f32 0x00000000#32)

/-- The same over 128 keys. -/
def expoC (q : Vec F S1x256x64 .bf16) (k : Vec F S1x128x64 .bf16) : FVec F S256x128 .f32 :=
  exp (mulf (matmul dot_S256x64_S128x64_S256x128_1_1_0_0_n_n none (shapeCast S256x64 q shapeCasts_S1x256x64_S256x64)
    (shapeCast S128x64 k shapeCasts_S1x128x64_S128x64) (constant S256x128 .f32 0x00000000#32))
    (broadcast S256x128 (Scalar.ofBits .f32 0x3E000000#32)))
def rsumC (q : Vec F S1x256x64 .bf16) (k : Vec F S1x128x64 .bf16) : FVec F S256x1 .f32 :=
  shapeCast S256x1 (multiReduction .add [1] S256 (expoC q k) 0x00000000#32 reduces_S256x128_S256 (.inl rfl) rfl) shapeCasts_S256_S256x1
def wsumC (q : Vec F S1x256x64 .bf16) (k v : Vec F S1x128x64 .bf16) : FVec F S256x64 .f32 :=
  matmul dot_S256x128_S128x64_S256x64_1_0_0_1_n_n none (truncf .bf16 (expoC q k) bitsLt_bf16_f32)
    (shapeCast S128x64 v shapeCasts_S1x128x64_S128x64) (constant S256x64 .f32 0x00000000#32)

/-- What the first phase stores. -/
def payL (q k : Vec F S1x256x64 .bf16) : FVec F S1x256x1 .f32 := shapeCast S1x256x1 (rsum q k) shapeCasts_S256x1_S1x256x1
def payA (q k v : Vec F S1x256x64 .bf16) : FVec F S1x256x64 .f32 := shapeCast S1x256x64 (wsum q k v) shapeCasts_S256x64_S1x256x64

/-- The quotient of two totals, rounded. -/
def quot (o : FVec F S256x64 .f32) (l : FVec F S256x1 .f32) (o0 : Vec F S1x256x64 .f32) (l0 : Vec F S1x256x1 .f32) : FVec F S1x256x64 .bf16 :=
  shapeCast S1x256x64 (truncf .bf16 (divf (addf (shapeCast S256x64 o0 shapeCasts_S1x256x64_S256x64) o)
    (broadcastTo S256x64 (addf (shapeCast S256x1 l0 shapeCasts_S1x256x1_S256x1) l) broadcasts_S256x1_S256x64)) bitsLt_bf16_f32)
    shapeCasts_S256x64_S1x256x64

/-- What the third phase stores over the two running totals. -/
def payA' (q : Vec F S1x256x64 .bf16) (k v : Vec F S1x128x64 .bf16) (o0 : Vec F S1x256x64 .f32) : FVec F S1x256x64 .f32 :=
  shapeCast S1x256x64 (addf (shapeCast S256x64 o0 shapeCasts_S1x256x64_S256x64) (wsumC q k v)) shapeCasts_S256x64_S1x256x64
def payL' (q : Vec F S1x256x64 .bf16) (k : Vec F S1x128x64 .bf16) (l0 : Vec F S1x256x1 .f32) : FVec F S1x256x1 .f32 :=
  shapeCast S1x256x1 (addf (shapeCast S256x1 l0 shapeCasts_S1x256x1_S256x1) (rsumC q k)) shapeCasts_S256x1_S1x256x1

/-! ## The head blocks of the four phases -/

local notation "𝔼" => TpuEff nD τ sig (Elt F) Λ₀ Proc.tc

abbrev ldH {e : EltTy} (m : Memref sig .tc .vmem S4x256x1024 e) (n : Fin 64) : 𝔼 (Vec F S1x256x64 e) :=
  .load m (rH n).toLoadRect (View.loadsAt_vmem h_S1x256x64)
abbrev ldL (n : Fin 64) : 𝔼 (Vec F S1x256x1 .f32) :=
  .load lM (rL n).toLoadRect (View.loadsAt_vmem h_S1x256x1)
abbrev ldC (m : Memref sig .tc .vmem S4x256x1024 .bf16) (j : Fin 2) (h : Fin 16) : 𝔼 (Vec F S1x128x64 .bf16) :=
  .load m (rC j h).toLoadRect (View.loadsAt_vmem h_S1x128x64)
abbrev stL (n : Fin 64) (w : Vec F S1x256x1 .f32) : 𝔼 PUnit :=
  .store lM (rL n) w Finset.univ (View.stores_vmem_bits_univ h_S1x256x1 rfl) (.inl rfl)
abbrev stA (n : Fin 64) (w : Vec F S1x256x64 .f32) : 𝔼 PUnit :=
  .store aM (rH n) w Finset.univ (View.stores_vmem_bits_univ h_S1x256x64 rfl) (.inl rfl)
abbrev stG (n : Fin 64) (w : Vec F S1x256x64 .bf16) : 𝔼 PUnit :=
  .store gM (rH n) w Finset.univ (View.stores_vmem h_S1x256x64
    ((Memref.isWhole_whole _).storeExact_slice rfl _ (packedH n)) (fun _ => rfl)) (.inl rfl)

/-- The first phase's block: over this device's own keys. -/
def headA (n : Fin 64) : ℙ PUnit :=
  .op (ldH qM n) fun q =>
  .op (ldH kM n) fun k =>
  .op (ldL (F := F) n) fun _ =>
  .op (stL n (payL q k)) fun _ =>
  .op (ldH vM n) fun v =>
  .op (ldH (F := F) aM n) fun _ =>
  .op (stA n (payA q k v)) fun _ =>
  .ret ⟨⟩

/-- The second phase's: over the other device's keys, all 256. -/
def headB (n : Fin 64) : ℙ PUnit :=
  .op (ldH qM n) fun q =>
  .op (ldH kpM n) fun k =>
  .op (ldH vpM n) fun v =>
  .op (ldH aM n) fun o0 =>
  .op (ldL n) fun l0 =>
  .op (ldH (F := F) gM n) fun _ =>
  .op (stG n (quot (wsum q k v) (rsum q k) o0 l0)) fun _ =>
  .ret ⟨⟩

/-- Block of head `h` of the last batch row. -/
abbrev lastN (h : Fin 16) : Fin 64 := ⟨48 + h.1, by have := h.2; omega⟩

/-- The third phase's: over the first 128 of the last batch row. -/
def headC (h : Fin 16) : ℙ PUnit :=
  .op (ldH qM (lastN h)) fun q =>
  .op (ldC kpM 0 h) fun k =>
  .op (ldC vpM 0 h) fun v =>
  .op (ldH aM (lastN h)) fun o0 =>
  .op (ldH (F := F) aM (lastN h)) fun _ =>
  .op (stA (lastN h) (payA' q k v o0)) fun _ =>
  .op (ldL (lastN h)) fun l0 =>
  .op (ldL (F := F) (lastN h)) fun _ =>
  .op (stL (lastN h) (payL' q k l0)) fun _ =>
  .ret ⟨⟩

/-- The fourth phase's: over the last 128. -/
def headD (h : Fin 16) : ℙ PUnit :=
  .op (ldH qM (lastN h)) fun q =>
  .op (ldC kpM 1 h) fun k =>
  .op (ldC vpM 1 h) fun v =>
  .op (ldH aM (lastN h)) fun o0 =>
  .op (ldL (lastN h)) fun l0 =>
  .op (ldH (F := F) gM (lastN h)) fun _ =>
  .op (stG (lastN h) (quot (wsumC q k v) (rsumC q k) o0 l0)) fun _ =>
  .ret ⟨⟩

/-! ## The transfers

Piece `p` of the keys (`v = false`) or of the values (`v = true`). Pieces 0, 1, 2 are batch rows; pieces 3 and 4 are the
two halves of batch row 3. -/

/-- Rows of piece `p`, its batch row, its first row. -/
def pn (p : Fin 5) : ℕ := if p.1 < 3 then 256 else 128
def pb (p : Fin 5) : ℕ := if p.1 < 3 then p else 3
def pr0 (p : Fin 5) : ℕ := if p.1 < 4 then 0 else 128

theorem inbP : ∀ (p : Fin 5) a, (![pb p, pr0 p, 0] : Fin 3 → ℕ) a + (![1, pn p, 1024] : Fin 3 → ℕ) a ≤ S4x256x1024.size a := by
  decide

abbrev S3 (p : Fin 5) : Shape := ⟨3, ![1, pn p, 1024]⟩
abbrev S2 (p : Fin 5) : Shape := ⟨2, ![pn p, 1024]⟩
abbrev rP (p : Fin 5) : Rect S4x256x1024 := Rect.unit (s := S4x256x1024) ![pb p, pr0 p, 0] ![1, pn p, 1024] (inbP p)

theorem squeezesP : ∀ p : Fin 5, (S3 p).Squeezes (S2 p) := by decide
theorem wordsP : ∀ p : Fin 5, (rP p).WholeWords (EltTy.packing .bf16) := by decide

/-- Piece `p` of a buffer. -/
abbrev pc {sp : Space} (m : Memref sig .tc sp S4x256x1024 .bf16) (p : Fin 5) : Memref sig .tc sp (S2 p) .bf16 :=
  (m.slice (rP p) (fun _ => rfl)).squeeze (S2 p) (squeezesP p)

abbrev srcR : Bool → Ref sig .tc | false => cc0_stg1_0 | true => cc0_stg2_0
abbrev dstR : Bool → Ref sig .tc | false => cc0_scratch0 | true => cc0_scratch1
abbrev srcM : Bool → Memref sig .tc .vmem S4x256x1024 .bf16 | false => kM | true => vM
abbrev dstM : Bool → Memref sig .tc .vmem S4x256x1024 .bf16 | false => kpM | true => vpM
theorem srcM_whole (v : Bool) : (srcM v).IsWhole := by cases v <;> exact Memref.isWhole_whole _
theorem dstM_whole (v : Bool) : (dstM v).IsWhole := by cases v <;> exact Memref.isWhole_whole _

/-- Transfer number of a piece: the keys' and the values' alternate. -/
abbrev tn (v : Bool) (p : Fin 5) : ℕ := 2 * p.1 + v.toNat
theorem tn_lt (v : Bool) (p : Fin 5) : tn v p < 10 := by revert v p; decide
/-- The kernel's own DMA semaphores: ten of sends, ten of receipts, four of copies out. -/
abbrev dsem (x : Fin 24) : DmaSem sig := (⟨3 + x.1, by have := x.2; show 3 + x.1 < 27; omega⟩ : Fin 27)
abbrev sx (v : Bool) (p : Fin 5) : Fin 24 := ⟨tn v p, by have := tn_lt v p; omega⟩
abbrev rx (v : Bool) (p : Fin 5) : Fin 24 := ⟨10 + tn v p, by have := tn_lt v p; omega⟩
abbrev ox (b : Fin 4) : Fin 24 := ⟨20 + b.1, by have := b.2; omega⟩
abbrev sendS (v : Bool) (p : Fin 5) : DmaSem sig := dsem (sx v p)
abbrev recvS (v : Bool) (p : Fin 5) : DmaSem sig := dsem (rx v p)
abbrev outS (b : Fin 4) : DmaSem sig := dsem (ox b)

abbrev xsrc (v : Bool) (p : Fin 5) : Memref sig .tc .vmem (S2 p) .bf16 := pc (srcM v) p
abbrev xdst (v : Bool) (p : Fin 5) : Memref sig .tc .vmem (S2 p) .bf16 := pc (dstM v) p
theorem wsrc (v : Bool) (p : Fin 5) : (xsrc v p).view.WordExact :=
  ((srcM_whole v).wordExact_slice rfl _ (wordsP p)).reshape _ _
theorem wdst (v : Bool) (p : Fin 5) : (xdst v p).view.WordExact :=
  ((dstM_whole v).wordExact_slice rfl _ (wordsP p)).reshape _ _

/-- The device at the other end. -/
abbrev prD (d : Dev nD) : Dev nD := ⟨k0_dev1 d, k0_dev1_lt d⟩

abbrev startX (d : Dev nD) (v : Bool) (p : Fin 5) : 𝔼 PUnit :=
  .enqueueDma (xsrc v p) (.remote (Dev.tc (prD d)) (xdst v p) (.dma (sendS v p))) (.dma (recvS v p))
    (wsrc v p) (wdst v p) ⟨⟨rfl, Or.inl rfl⟩, trivial⟩
abbrev waitR (v : Bool) (p : Fin 5) : 𝔼 PUnit :=
  .waitDma2 (recvS v p) (xsrc v p) (xdst v p) (wsrc v p) (wdst v p)
abbrev waitS (v : Bool) (p : Fin 5) : 𝔼 PUnit :=
  .waitDma2 (sendS v p) (xdst v p) (xsrc v p) (wdst v p) (wsrc v p)

/-! ## The copies out: batch row `b` of the staged result -/

theorem inbB : ∀ (b : Fin 4) a, (![b, 0, 0] : Fin 3 → ℕ) a + S1x256x1024.size a ≤ S4x256x1024.size a := by decide
abbrev rB (b : Fin 4) : Rect S4x256x1024 := Rect.unit (s := S4x256x1024) ![b, 0, 0] S1x256x1024.size (inbB b)
abbrev row {sp : Space} (m : Memref sig .tc sp S4x256x1024 .bf16) (b : Fin 4) : Memref sig .tc sp S256x1024 .bf16 :=
  (m.slice (rB b) (fun _ => rfl)).squeeze S256x1024 squeezes_S1x256x1024_S256x1024
theorem wordsB : ∀ b : Fin 4, (rB b).WholeWords (EltTy.packing .bf16) := by decide
theorem wg (b : Fin 4) : (row gM b).view.WordExact :=
  ((Memref.isWhole_whole _).wordExact_slice rfl _ (wordsB b)).reshape _ _
theorem wo (b : Fin 4) : (row oM b).view.WordExact :=
  ((Memref.isWhole_whole _).wordExact_slice rfl _ (wordsB b)).reshape _ _

abbrev copyOut (b : Fin 4) : 𝔼 PUnit :=
  .enqueueDma (row gM b) (.here (row oM b)) (.dma (outS b)) (wg b) (wo b) ⟨Or.inl rfl, trivial⟩
abbrev waitO (b : Fin 4) : 𝔼 PUnit :=
  .waitDma2 (outS b) (row gM b) (row oM b) (wg b) (wo b)

/-! ## The body -/

/-- Head `h` of batch row `b`. -/
abbrev blk (b : Fin 3) (h : Fin 16) : Fin 64 := ⟨16 * b.1 + h.1, by have := b.2; have := h.2; omega⟩
/-- Piece `b`, the whole of batch row `b`; row `b` as one of the four. -/
abbrev pcB (b : Fin 3) : Fin 5 := ⟨b.1, by have := b.2; omega⟩
abbrev rowB (b : Fin 3) : Fin 4 := ⟨b.1, by have := b.2; omega⟩

/-- The second phase at batch row `b`: receive it, attend over it, start copying the result out. -/
def phaseB (b : Fin 3) : ℙ PUnit :=
  .op (waitR (F := F) false (pcB b)) fun _ =>
  .op (waitR (F := F) true (pcB b)) fun _ =>
  seqFin 16 (fun h => headB (F := F) (blk b h)) >>= fun _ =>
  .op (copyOut (F := F) (rowB b)) fun _ => .ret ⟨⟩

/-- The third phase: receive the first half of the last batch row and attend over it. -/
def phaseC : ℙ PUnit :=
  .op (waitR (F := F) false 3) fun _ =>
  .op (waitR (F := F) true 3) fun _ =>
  seqFin 16 (headC (F := F))

/-- The fourth: the other half, and the result's last row copied out. -/
def phaseD : ℙ PUnit :=
  .op (waitR (F := F) false 4) fun _ =>
  .op (waitR (F := F) true 4) fun _ =>
  seqFin 16 (headD (F := F)) >>= fun _ =>
  .op (copyOut (F := F) 3) fun _ => .ret ⟨⟩

/-- Piece `p` of the keys and of the values is sent. -/
def startP (d : Dev nD) (p : Fin 5) : ℙ PUnit :=
  .op (startX (F := F) d false p) fun _ =>
  .op (startX (F := F) d true p) fun _ => .ret ⟨⟩

/-- Both have left. -/
def waitP (p : Fin 5) : ℙ PUnit :=
  .op (waitS (F := F) false p) fun _ =>
  .op (waitS (F := F) true p) fun _ => .ret ⟨⟩

/-- Row `b` of the result is out. -/
def waitOP (b : Fin 4) : ℙ PUnit := .op (waitO (F := F) b) fun _ => .ret ⟨⟩

def body : ℙ PUnit :=
  .op .deviceId fun d =>
  .op (.semSignal (Dev.tc (prD d)) barrier0 1) fun _ =>
  .op (.semWait barrier0 1) fun _ =>
  seqFin 5 (startP (F := F) d) >>= fun _ =>
  seqFin 64 (headA (F := F)) >>= fun _ =>
  seqFin 3 (phaseB (F := F)) >>= fun _ =>
  phaseC >>= fun _ =>
  phaseD >>= fun _ =>
  seqFin 4 (waitOP (F := F)) >>= fun _ =>
  seqFin 5 (waitP (F := F))

open Idealize.ShloMosaic.Tactic in
theorem body_eq : cc0_body (F := F) qM (Memref.isWhole_whole _) kM (Memref.isWhole_whole _) vM (Memref.isWhole_whole _)
    oM (Memref.isWhole_whole _) kpM (Memref.isWhole_whole _) vpM (Memref.isWhole_whole _) lM (Memref.isWhole_whole _)
    aM (Memref.isWhole_whole _) gM (Memref.isWhole_whole _) cc0_scratch5 cc0_scratch6 cc0_scratch7 = body := by
  sl_kernel_rfl

end Cert.KernelIdeal.Pair

end
-- ==== Proof.Blocks.lean ====
/- A buffer rewritten block by block: what it holds after some of the blocks, as a function of the index. -/
module

public import proofs.«01_k».proof.Proof.Prog

@[expose] public section

noncomputable section

namespace Cert.KernelIdeal.Pair

open Idealize.ShloMosaic

/-- `N` blocks of one size that cover a shape, each index in exactly one: its block is `code`. -/
structure Tiling (s : Shape) (N : ℕ) (size : Fin s.rank → ℕ) where
  off : Fin N → Fin s.rank → ℕ
  inb : ∀ n a, off n a + size a ≤ s.size a
  code : s.Idx → Fin N
  mem : ∀ i a, off (code i) a ≤ (i a : ℕ) ∧ (i a : ℕ) < off (code i) a + size a
  uniq : ∀ n (i : s.Idx), (∀ a, off n a ≤ (i a : ℕ) ∧ (i a : ℕ) < off n a + size a) → code i = n

namespace Tiling

variable {s : Shape} {N : ℕ} {size : Fin s.rank → ℕ} (T : Tiling s N size)

abbrev rect (n : Fin N) : Rect s := Rect.unit (T.off n) size (T.inb n)

/-- Where an index sits in its block. -/
def place (i : s.Idx) : (⟨s.rank, size⟩ : Shape).Idx :=
  fun a => ⟨(i a : ℕ) - T.off (T.code i) a, by
    have h := T.mem i a
    show (i a : ℕ) - T.off (T.code i) a < size a
    omega⟩

theorem code_idx (n : Fin N) (j : (T.rect n).shape.Idx) : T.code ((T.rect n).idx j) = n :=
  T.uniq n _ fun a => by
    have h := (j a).isLt
    have e : ((T.rect n).idx j a : ℕ) = T.off n a + 1 * (j a : ℕ) := rfl
    change (j a : ℕ) < size a at h
    omega
theorem place_idx (n : Fin N) (j : (T.rect n).shape.Idx) : T.place ((T.rect n).idx j) = j := by
  funext a
  apply Fin.ext
  show ((T.rect n).idx j a : ℕ) - T.off (T.code ((T.rect n).idx j)) a = (j a : ℕ)
  rw [T.code_idx n j]
  show T.off n a + 1 * (j a : ℕ) - T.off n a = (j a : ℕ)
  omega
theorem mem_rect (n : Fin N) (i : s.Idx) : i ∈ (T.rect n).set ↔ T.code i = n := by
  rw [Rect.mem_set_unit]
  exact ⟨T.uniq n i, fun h => h ▸ T.mem i⟩
theorem idx_place (i : s.Idx) : (T.rect (T.code i)).idx (T.place i) = i := by
  obtain ⟨j, hj⟩ := (T.rect (T.code i)).exists_idx_of_mem ((T.mem_rect _ i).mpr rfl)
  conv_lhs => rw [show T.place i = j by rw [← T.place_idx (T.code i) j]; exact congrArg T.place hj.symm]
  exact hj

variable {X : Type}

/-- Blocks `lo` to `hi - 1` at `w`, the rest at `f`. -/
def mix (lo hi : ℕ) (w : Fin N → (⟨s.rank, size⟩ : Shape).Idx → X) (f : s.Idx → X) : s.Idx → X :=
  fun i => if lo ≤ (T.code i : ℕ) ∧ (T.code i : ℕ) < hi then w (T.code i) (T.place i) else f i

/-- Every block at `w`. -/
def asm (w : Fin N → (⟨s.rank, size⟩ : Shape).Idx → X) : s.Idx → X := fun i => w (T.code i) (T.place i)

theorem mix_self (lo : ℕ) (w : Fin N → (⟨s.rank, size⟩ : Shape).Idx → X) (f : s.Idx → X) : T.mix lo lo w f = f := by
  funext i; exact if_neg (by omega)
theorem mix_all (w : Fin N → (⟨s.rank, size⟩ : Shape).Idx → X) (f : s.Idx → X) : T.mix 0 N w f = T.asm w := by
  funext i; exact if_pos ⟨Nat.zero_le _, (T.code i).isLt⟩
theorem mix_idx (lo hi : ℕ) (w : Fin N → (⟨s.rank, size⟩ : Shape).Idx → X) (f : s.Idx → X) (n : Fin N)
    (h : ¬ (lo ≤ (n : ℕ) ∧ (n : ℕ) < hi)) (j : (T.rect n).shape.Idx) :
    T.mix lo hi w f ((T.rect n).idx j) = f ((T.rect n).idx j) := by
  unfold mix; rw [T.code_idx n j]; exact if_neg h
theorem asm_idx (w : Fin N → (⟨s.rank, size⟩ : Shape).Idx → X) (n : Fin N) (j : (T.rect n).shape.Idx) :
    T.asm w ((T.rect n).idx j) = w n j := by
  unfold asm; rw [T.code_idx n j, T.place_idx n j]
/-- Block `n` of a function. -/
def block (f : s.Idx → X) (n : Fin N) : (⟨s.rank, size⟩ : Shape).Idx → X := fun j => f ((T.rect n).idx j)

end Tiling

/-! ## Through a view -/

section Views

variable {F : FTy → Type} {κ : Kind} (b : Ref sig κ) {N : ℕ} {size : Fin b.ty.shape.rank → ℕ} (T : Tiling b.ty.shape N size)
  (f : b.ty.shape.Idx → Elt F b.ty.elt) (w : Fin N → (⟨b.ty.shape.rank, size⟩ : Shape).Idx → Elt F b.ty.elt)

theorem read_block (n : Fin N) : ((View.whole b).slice (T.rect n)).read (Elt F) f = T.block f n := rfl

theorem write_mix (lo : ℕ) (n : Fin N) (hn : lo ≤ (n : ℕ)) :
    ((View.whole b).slice (T.rect n)).write (Elt F) (T.mix lo n w f) (w n) Finset.univ = T.mix lo (n + 1) w f := by
  funext i
  by_cases h : T.code i = n
  · have e : ((View.whole b).slice (T.rect n)).emb (T.place i) = i := h ▸ T.idx_place i
    have hm : T.mix lo (n + 1) w f i = w n (T.place i) := by
      unfold Tiling.mix
      rw [h]
      exact if_pos ⟨hn, Nat.lt_succ_self _⟩
    rw [hm]
    conv_lhs => rw [← e]
    rw [View.write_emb_of_mem _ _ (Finset.mem_univ _)]
    rfl
  · rw [View.write_of_not_mem]
    · have h' : (T.code i : ℕ) ≠ (n : ℕ) := fun e => h (Fin.ext e)
      unfold Tiling.mix
      by_cases hl : lo ≤ (T.code i : ℕ) ∧ (T.code i : ℕ) < (n : ℕ)
      · rw [if_pos hl, if_pos ⟨hl.1, by omega⟩]
      · rw [if_neg hl, if_neg (by omega)]
    · intro hx
      obtain ⟨x, -, hx⟩ := Finset.mem_map.mp hx
      exact h (hx ▸ T.code_idx n x)

end Views

/-! ## The head blocks -/

def TH : Tiling S4x256x1024 64 S1x256x64.size where
  off n := ![n / 16, 0, 64 * (n % 16)]
  inb := inbH
  code i := ⟨16 * (i 0 : ℕ) + (i 2 : ℕ) / 64, by
    have h0 : (i 0 : ℕ) < 4 := (i 0).isLt
    have h2 : (i 2 : ℕ) < 1024 := (i 2).isLt
    omega⟩
  mem i a := by
    have h0 : (i 0 : ℕ) < 4 := (i 0).isLt
    have h1 : (i 1 : ℕ) < 256 := (i 1).isLt
    have h2 : (i 2 : ℕ) < 1024 := (i 2).isLt
    fin_cases a
    · show (16 * (i 0 : ℕ) + (i 2 : ℕ) / 64) / 16 ≤ (i 0 : ℕ) ∧ (i 0 : ℕ) < (16 * (i 0 : ℕ) + (i 2 : ℕ) / 64) / 16 + 1
      omega
    · show 0 ≤ (i 1 : ℕ) ∧ (i 1 : ℕ) < 0 + 256
      omega
    · show 64 * ((16 * (i 0 : ℕ) + (i 2 : ℕ) / 64) % 16) ≤ (i 2 : ℕ) ∧ (i 2 : ℕ) < 64 * ((16 * (i 0 : ℕ) + (i 2 : ℕ) / 64) % 16) + 64
      omega
  uniq n i h := by
    have hn := n.2
    have h0 : (n : ℕ) / 16 ≤ (i 0 : ℕ) ∧ (i 0 : ℕ) < (n : ℕ) / 16 + 1 := h 0
    have h2 : 64 * ((n : ℕ) % 16) ≤ (i 2 : ℕ) ∧ (i 2 : ℕ) < 64 * ((n : ℕ) % 16) + 64 := h 2
    apply Fin.ext
    show 16 * (i 0 : ℕ) + (i 2 : ℕ) / 64 = n
    omega

def TL : Tiling S4x256x16 64 S1x256x1.size where
  off n := ![n / 16, 0, n % 16]
  inb := inbL
  code i := ⟨16 * (i 0 : ℕ) + (i 2 : ℕ), by
    have h0 : (i 0 : ℕ) < 4 := (i 0).isLt
    have h2 : (i 2 : ℕ) < 16 := (i 2).isLt
    omega⟩
  mem i a := by
    have h0 : (i 0 : ℕ) < 4 := (i 0).isLt
    have h1 : (i 1 : ℕ) < 256 := (i 1).isLt
    have h2 : (i 2 : ℕ) < 16 := (i 2).isLt
    fin_cases a
    · show (16 * (i 0 : ℕ) + (i 2 : ℕ)) / 16 ≤ (i 0 : ℕ) ∧ (i 0 : ℕ) < (16 * (i 0 : ℕ) + (i 2 : ℕ)) / 16 + 1
      omega
    · show 0 ≤ (i 1 : ℕ) ∧ (i 1 : ℕ) < 0 + 256
      omega
    · show (16 * (i 0 : ℕ) + (i 2 : ℕ)) % 16 ≤ (i 2 : ℕ) ∧ (i 2 : ℕ) < (16 * (i 0 : ℕ) + (i 2 : ℕ)) % 16 + 1
      omega
  uniq n i h := by
    have hn := n.2
    have h0 : (n : ℕ) / 16 ≤ (i 0 : ℕ) ∧ (i 0 : ℕ) < (n : ℕ) / 16 + 1 := h 0
    have h2 : (n : ℕ) % 16 ≤ (i 2 : ℕ) ∧ (i 2 : ℕ) < (n : ℕ) % 16 + 1 := h 2
    apply Fin.ext
    show 16 * (i 0 : ℕ) + (i 2 : ℕ) = n
    omega

/-! ## Pieces and rows as index sets -/

theorem mem_piece (p : Fin 5) (i : S4x256x1024.Idx) :
    i ∈ (rP p).set ↔ (i 0 : ℕ) = pb p ∧ pr0 p ≤ (i 1 : ℕ) ∧ (i 1 : ℕ) < pr0 p + pn p := by
  have h2 : (i 2 : ℕ) < 1024 := (i 2).isLt
  rw [Rect.mem_set_unit]
  constructor
  · intro h
    have h0 : pb p ≤ (i 0 : ℕ) ∧ (i 0 : ℕ) < pb p + 1 := h 0
    have h1 : pr0 p ≤ (i 1 : ℕ) ∧ (i 1 : ℕ) < pr0 p + pn p := h 1
    exact ⟨by omega, h1⟩
  · rintro ⟨h0, h1⟩ a
    fin_cases a
    · show pb p ≤ (i 0 : ℕ) ∧ (i 0 : ℕ) < pb p + 1
      omega
    · exact h1
    · show 0 ≤ (i 2 : ℕ) ∧ (i 2 : ℕ) < 0 + 1024
      omega

theorem mem_row (b : Fin 4) (i : S4x256x1024.Idx) : i ∈ (rB b).set ↔ (i 0 : ℕ) = b := by
  have h1 : (i 1 : ℕ) < 256 := (i 1).isLt
  have h2 : (i 2 : ℕ) < 1024 := (i 2).isLt
  rw [Rect.mem_set_unit]
  constructor
  · intro h
    have h0 : (b : ℕ) ≤ (i 0 : ℕ) ∧ (i 0 : ℕ) < b + 1 := h 0
    omega
  · intro h0 a
    fin_cases a
    · show (b : ℕ) ≤ (i 0 : ℕ) ∧ (i 0 : ℕ) < b + 1
      omega
    · show 0 ≤ (i 1 : ℕ) ∧ (i 1 : ℕ) < 0 + 256
      omega
    · show 0 ≤ (i 2 : ℕ) ∧ (i 2 : ℕ) < 0 + 1024
      omega

theorem pieces_disjoint : ∀ p ∈ (Finset.univ : Finset (Fin 5)), ∀ p' ∈ (Finset.univ : Finset (Fin 5)), p ≠ p' →
    Disjoint (rP p).set (rP p').set := by
  intro p _ p' _ hne
  rw [Finset.disjoint_left]
  intro i hi hi'
  rw [mem_piece] at hi hi'
  revert hi hi' hne
  generalize (i 0 : ℕ) = x
  generalize (i 1 : ℕ) = y
  fin_cases p <;> fin_cases p' <;> simp [pb, pr0, pn] <;> omega

theorem pieces_cover : (Finset.univ : Finset (Fin 5)).biUnion (fun p => (rP p).set) = Finset.univ := by
  ext i
  have h0 : (i 0 : ℕ) < 4 := (i 0).isLt
  have h1 : (i 1 : ℕ) < 256 := (i 1).isLt
  simp only [Finset.mem_biUnion, Finset.mem_univ, true_and, iff_true]
  by_cases h : (i 0 : ℕ) < 3
  · refine ⟨⟨(i 0 : ℕ), by omega⟩, (mem_piece _ i).mpr ?_⟩
    have e0 : pb ⟨(i 0 : ℕ), by omega⟩ = (i 0 : ℕ) := if_pos h
    have e1 : pr0 ⟨(i 0 : ℕ), by omega⟩ = 0 := if_pos h0
    have e2 : pn ⟨(i 0 : ℕ), by omega⟩ = 256 := if_pos h
    rw [e0, e1, e2]
    omega
  · by_cases h' : (i 1 : ℕ) < 128
    · exact ⟨3, (mem_piece _ i).mpr ⟨show (i 0 : ℕ) = 3 by omega, Nat.zero_le _, show (i 1 : ℕ) < 0 + 128 by omega⟩⟩
    · exact ⟨4, (mem_piece _ i).mpr ⟨show (i 0 : ℕ) = 3 by omega, show 128 ≤ (i 1 : ℕ) by omega, show (i 1 : ℕ) < 128 + 128 by omega⟩⟩

theorem rows_disjoint : ∀ b ∈ (Finset.univ : Finset (Fin 4)), ∀ b' ∈ (Finset.univ : Finset (Fin 4)), b ≠ b' →
    Disjoint (rB b).set (rB b').set := by
  intro b _ b' _ hne
  rw [Finset.disjoint_left]
  intro i hi hi'
  rw [mem_row] at hi hi'
  exact hne (Fin.ext (hi.symm.trans hi'))

theorem rows_cover : (Finset.univ : Finset (Fin 4)).biUnion (fun b => (rB b).set) = Finset.univ := by
  ext i
  simp only [Finset.mem_biUnion, Finset.mem_univ, true_and, iff_true]
  exact ⟨⟨(i 0 : ℕ), (i 0).isLt⟩, (mem_row _ i).mpr rfl⟩

/-- A head block lies in its batch row. -/
theorem head_sub_row (b : Fin 4) (n : Fin 64) (h : (n : ℕ) / 16 = b) : (rH n).set ⊆ (rB b).set := by
  intro i hi
  rw [Rect.mem_set_unit] at hi
  have h0 : (n : ℕ) / 16 ≤ (i 0 : ℕ) ∧ (i 0 : ℕ) < (n : ℕ) / 16 + 1 := hi 0
  rw [mem_row]; omega
theorem head_sub_piece (b : Fin 3) (n : Fin 64) (h : (n : ℕ) / 16 = b) : (rH n).set ⊆ (rP (pcB b)).set := by
  intro i hi
  have h1 : (i 1 : ℕ) < 256 := (i 1).isLt
  have hb := b.2
  rw [Rect.mem_set_unit] at hi
  have h0 : (n : ℕ) / 16 ≤ (i 0 : ℕ) ∧ (i 0 : ℕ) < (n : ℕ) / 16 + 1 := hi 0
  rw [mem_piece]
  simp only [pb, pr0, pn, if_pos hb, if_pos (show (b : ℕ) < 4 by omega)]
  omega
/-- Piece `3 + j`, the half of the last batch row starting at row `128 j`. -/
abbrev pcC (j : Fin 2) : Fin 5 := ⟨3 + j.1, by have := j.2; omega⟩
theorem half_sub_piece (j : Fin 2) (h : Fin 16) : (rC j h).set ⊆ (rP (pcC j)).set := by
  intro i hi
  have hj := j.2
  rw [Rect.mem_set_unit] at hi
  have h0 : 3 ≤ (i 0 : ℕ) ∧ (i 0 : ℕ) < 3 + 1 := hi 0
  have h1 : 128 * (j : ℕ) ≤ (i 1 : ℕ) ∧ (i 1 : ℕ) < 128 * (j : ℕ) + 128 := hi 1
  rw [mem_piece]
  rcases (show (j : ℕ) = 0 ∨ (j : ℕ) = 1 by omega) with e | e <;> rw [e] at h1 <;> simp [pb, pr0, pn, e] <;> omega

/-- Two batch rows' worth of heads: what the mixed contents hold on a finished row. -/
theorem mix_row {X : Type} (b : Fin 4) (w : Fin 64 → S1x256x64.Idx → X) (f : S4x256x1024.Idx → X) (i : S4x256x1024.Idx)
    (hi : i ∈ (rB b).set) : TH.mix (16 * b) (16 * b + 16) w f i = TH.asm w i := by
  rw [mem_row] at hi
  have h2 : (i 2 : ℕ) < 1024 := (i 2).isLt
  exact if_pos (show 16 * (b : ℕ) ≤ 16 * (i 0 : ℕ) + (i 2 : ℕ) / 64 ∧ 16 * (i 0 : ℕ) + (i 2 : ℕ) / 64 < 16 * b + 16 by omega)

end Cert.KernelIdeal.Pair

end
-- ==== Proof.Heads.lean ====
/- What each phase's head blocks leave in the buffers they write, as functions of the staged queries, keys and values and of
   the other device's. -/
module

public import proofs.«01_k».proof.Proof.Blocks
public import Idealize.ShloMosaic.Lib.Rounds
public import Idealize.ShloMosaic.Lib.SparseCore.ProtocolKit

@[expose] public section

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The contents -/

section Contents

/-- A whole buffer of the kernel's wide shape. -/
abbrev Wide (F : FTy → Type) (t : EltTy) : Type := S4x256x1024.Idx → Elt F t

def bH {t : EltTy} (f : Wide F t) (n : Fin 64) : Vec F S1x256x64 t := fun j => f ((rH n).idx j)
def bL (f : S4x256x16.Idx → Elt F .f32) (n : Fin 64) : Vec F S1x256x1 .f32 := fun j => f ((rL n).idx j)
def bC (f : Wide F .bf16) (j : Fin 2) (h : Fin 16) : Vec F S1x128x64 .bf16 := fun x => f ((rC j h).idx x)
/-- The head of a block. -/
def hd (n : Fin 64) : Fin 16 := ⟨(n : ℕ) % 16, by omega⟩
theorem hd_last (h : Fin 16) : hd (lastN h) = h := Fin.ext (by have := h.2; show (48 + (h : ℕ)) % 16 = h; omega)

variable (Q K V KP VP : Wide F .bf16)

def wL (n : Fin 64) : FVec F S1x256x1 .f32 := payL (bH Q n) (bH K n)
def wA (n : Fin 64) : FVec F S1x256x64 .f32 := payA (bH Q n) (bH K n) (bH V n)
/-- The running totals after the first phase. -/
def L0 : S4x256x16.Idx → Elt F .f32 := TL.asm (wL Q K)
def A0 : Wide F .f32 := TH.asm (wA Q K V)
def wC (n : Fin 64) : FVec F S1x256x64 .f32 := payA' (bH Q n) (bC KP 0 (hd n)) (bC VP 0 (hd n)) (bH (A0 Q K V) n)
def wCl (n : Fin 64) : FVec F S1x256x1 .f32 := payL' (bH Q n) (bC KP 0 (hd n)) (bL (L0 Q K) n)
/-- And after the third. -/
def A1 : Wide F .f32 := TH.mix 48 64 (wC Q K V KP VP) (A0 Q K V)
def L1 : S4x256x16.Idx → Elt F .f32 := TL.mix 48 64 (wCl Q K KP) (L0 Q K)
/-- A block of the result: of the first three batch rows, and of the last. -/
def wB (n : Fin 64) : FVec F S1x256x64 .bf16 :=
  quot (wsum (bH Q n) (bH KP n) (bH VP n)) (rsum (bH Q n) (bH KP n)) (bH (A0 Q K V) n) (bL (L0 Q K) n)
def wD (n : Fin 64) : FVec F S1x256x64 .bf16 :=
  quot (wsumC (bH Q n) (bC KP 1 (hd n)) (bC VP 1 (hd n))) (rsumC (bH Q n) (bC KP 1 (hd n)))
    (bH (A1 Q K V KP VP) n) (bL (L1 Q K KP) n)
def wOut (n : Fin 64) : FVec F S1x256x64 .bf16 := if (n : ℕ) < 48 then wB Q K V KP VP n else wD Q K V KP VP n
/-- The kernel's result on one device. -/
def OUT : Wide F .bf16 := TH.asm (wOut Q K V KP VP)

end Contents

/-! ## A loop written out, run -/

abbrev UU : Type := UR sig nD τ × UR sig nD τ
local notation "𝕄" => MT nD τ sig Unit (Elt F) ℕ UU ℕ

abbrev 𝒱₀ : Variants := Variants.none

theorem wp_seqFin (c : Dev nD) (n : ℕ) : ∀ (I : ℕ → sProp 𝕄) (f : Fin n → Prog (TpuEff nD τ sig (Elt F) Λ₀ Proc.tc) PUnit)
    (_ : ∀ (i : Fin n) (Kt : PUnit → sProp 𝕄),
      iprop(I i ∗ (I (i + 1) -∗ Kt ⟨⟩)) ⊢ wp frame (wpE (defs₀ (F := F)) 𝒱₀ c none) Set.univ (f i) Kt)
    (Kt : PUnit → sProp 𝕄),
    iprop(I 0 ∗ (I n -∗ Kt ⟨⟩)) ⊢ wp frame (wpE (defs₀ (F := F)) 𝒱₀ c none) Set.univ (seqFin n f) Kt := by
  induction n with
  | zero =>
    intro I f _ Kt
    show _ ⊢ wp frame _ Set.univ (.ret ⟨⟩) Kt
    rw [wp_ret]
    iintro ⟨H, Hk⟩
    imodintro
    iapply Hk
    iexact H
  | succ n ih =>
    intro I f hf Kt
    show _ ⊢ wp frame _ Set.univ (f 0 >>= fun _ => seqFin n fun i => f i.succ) Kt
    rw [wp_bind]
    have h0 : ∀ Kt : PUnit → sProp 𝕄, iprop(I 0 ∗ (I (0 + 1) -∗ Kt ⟨⟩))
      ⊢ wp frame (wpE (defs₀ (F := F)) 𝒱₀ c none) Set.univ (f 0) Kt := fun Kt => hf 0 Kt
    have hs : ∀ Kt : PUnit → sProp 𝕄, iprop(I (0 + 1) ∗ (I (n + 1) -∗ Kt ⟨⟩))
      ⊢ wp frame (wpE (defs₀ (F := F)) 𝒱₀ c none) Set.univ (seqFin n fun i => f i.succ) Kt :=
      fun Kt => ih (fun k => I (k + 1)) (fun i => f i.succ) (fun i => hf i.succ) Kt
    iintro ⟨H, Hk⟩
    iapply (h0 _)
    isplitl [H]; · iexact H
    iintro H
    iapply (hs Kt)
    isplitl [H]; · iexact H
    iexact Hk

/-! ## The four phases' head blocks -/

section Heads

variable (c : Dev nD) (Q K V KP VP : Wide F .bf16)

/-- Share `q` of the elements `S` of a buffer on device `c`. -/
abbrev pts {sp : Space} {s : Shape} {e : EltTy} (m : Memref sig .tc sp s e) (S : Finset (Idx (m.view.loc (c : Thread nD τ)))) (q : PosShare TreeShare)
    (f : Buf (Elt F) (m.view.loc (c : Thread nD τ))) : sProp 𝕄 := m.view.loc (c : Thread nD τ) ↦[S]{q} f

theorem wr_L (lo : ℕ) (w : Fin 64 → FVec F S1x256x1 .f32) (f : S4x256x16.Idx → Elt F .f32) (n : Fin 64) (hn : lo ≤ (n : ℕ))
    (x : FVec F S1x256x1 .f32) (hx : x = w n) :
    (pts c lM Finset.univ fullShare ((lM.access (rL n)).write (Elt F) (TL.mix lo n w f) x Finset.univ) : sProp 𝕄)
      ⊢ pts c lM Finset.univ fullShare (TL.mix lo (n + 1) w f) :=
  Entails.of_eq (congrArg (fun g => pts c lM Finset.univ fullShare g) (hx ▸ write_mix cc0_scratch2 TL f w lo n hn))
theorem wr_A (lo : ℕ) (w : Fin 64 → FVec F S1x256x64 .f32) (f : Wide F .f32) (n : Fin 64) (hn : lo ≤ (n : ℕ))
    (x : FVec F S1x256x64 .f32) (hx : x = w n) :
    (pts c aM Finset.univ fullShare ((aM.access (rH n)).write (Elt F) (TH.mix lo n w f) x Finset.univ) : sProp 𝕄)
      ⊢ pts c aM Finset.univ fullShare (TH.mix lo (n + 1) w f) :=
  Entails.of_eq (congrArg (fun g => pts c aM Finset.univ fullShare g) (hx ▸ write_mix cc0_scratch3 TH f w lo n hn))
theorem wr_G (S : Finset S4x256x1024.Idx) (lo : ℕ) (w : Fin 64 → FVec F S1x256x64 .bf16) (f : Wide F .bf16) (n : Fin 64) (hn : lo ≤ (n : ℕ))
    (x : FVec F S1x256x64 .bf16) (hx : x = w n) :
    (pts c gM S fullShare ((gM.access (rH n)).write (Elt F) (TH.mix lo n w f) x Finset.univ) : sProp 𝕄)
      ⊢ pts c gM S fullShare (TH.mix lo (n + 1) w f) :=
  Entails.of_eq (congrArg (fun g => pts c gM S fullShare g) (hx ▸ write_mix cc0_scratch4 TH f w lo n hn))

theorem rq (f : Wide F .bf16) (n : Fin 64) : (qM.access (rH n)).read (Elt F) f = bH f n := rfl
theorem rk (f : Wide F .bf16) (n : Fin 64) : (kM.access (rH n)).read (Elt F) f = bH f n := rfl
theorem rv (f : Wide F .bf16) (n : Fin 64) : (vM.access (rH n)).read (Elt F) f = bH f n := rfl
theorem rkp (f : Wide F .bf16) (n : Fin 64) : (kpM.access (rH n)).read (Elt F) f = bH f n := rfl
theorem rvp (f : Wide F .bf16) (n : Fin 64) : (vpM.access (rH n)).read (Elt F) f = bH f n := rfl
theorem rkc (f : Wide F .bf16) (j : Fin 2) (h : Fin 16) : (kpM.access (rC j h)).read (Elt F) f = bC f j h := rfl
theorem rvc (f : Wide F .bf16) (j : Fin 2) (h : Fin 16) : (vpM.access (rC j h)).read (Elt F) f = bC f j h := rfl
theorem ra (f : Wide F .f32) (n : Fin 64) : (aM.access (rH n)).read (Elt F) f = bH f n := rfl
theorem rl (f : S4x256x16.Idx → Elt F .f32) (n : Fin 64) : (lM.access (rL n)).read (Elt F) f = bL f n := rfl

abbrev hf : PosShare TreeShare := fullShare.right

def invA (l0 : S4x256x16.Idx → Elt F .f32) (a0 : Wide F .f32) (n : ℕ) : sProp 𝕄 :=
  iprop(pts c qM Finset.univ fullShare Q ∗ pts c kM Finset.univ hf K ∗ pts c vM Finset.univ hf V
    ∗ pts c lM Finset.univ fullShare (TL.mix 0 n (wL Q K) l0) ∗ pts c aM Finset.univ fullShare (TH.mix 0 n (wA Q K V) a0))

theorem headA_run (l0 : S4x256x16.Idx → Elt F .f32) (a0 : Wide F .f32) (n : Fin 64) (Kt : PUnit → sProp 𝕄) :
    iprop(invA c Q K V l0 a0 n ∗ (invA c Q K V l0 a0 (n + 1) -∗ Kt ⟨⟩))
      ⊢ wp frame (wpE (defs₀ (F := F)) 𝒱₀ c none) Set.univ (headA n) Kt := by
  unfold invA headA
  iintro ⟨⟨Hq, HK, Hv, Hl, Ha⟩, Hk⟩
  iapply (wp_load_rect 𝒱₀ (c : Thread nD τ) none Set.univ (m := qM) (r := rH n) (Finset.subset_univ _)) $$ Hq; iintro Hq
  iapply (wp_load_rect 𝒱₀ (c : Thread nD τ) none Set.univ (m := kM) (r := rH n) (Finset.subset_univ _)) $$ HK; iintro HK
  iapply (wp_load_rect 𝒱₀ (c : Thread nD τ) none Set.univ (m := lM) (r := rL n) (Finset.subset_univ _)) $$ Hl; iintro Hl
  rw [rq, rk]
  iapply (wp_store 𝒱₀ (c : Thread nD τ) none Set.univ (m := lM) (r := rL n) (Finset.subset_univ _)) $$ Hl; iintro Hl
  iapply (wp_load_rect 𝒱₀ (c : Thread nD τ) none Set.univ (m := vM) (r := rH n) (Finset.subset_univ _)) $$ Hv; iintro Hv
  iapply (wp_load_rect 𝒱₀ (c : Thread nD τ) none Set.univ (m := aM) (r := rH n) (Finset.subset_univ _)) $$ Ha; iintro Ha
  rw [rv]
  iapply (wp_store 𝒱₀ (c : Thread nD τ) none Set.univ (m := aM) (r := rH n) (Finset.subset_univ _)) $$ Ha; iintro Ha
  rw [wp_ret]
  imodintro
  iapply Hk
  isplitl [Hq]; · iexact Hq
  isplitl [HK]; · iexact HK
  isplitl [Hv]; · iexact Hv
  isplitl [Hl]
  · iapply (wr_L c 0 (wL Q K) l0 n (Nat.zero_le _) (payL (bH Q n) (bH K n)) rfl) $$ Hl
  · iapply (wr_A c 0 (wA Q K V) a0 n (Nat.zero_le _) (payA (bH Q n) (bH K n) (bH V n)) rfl) $$ Ha

theorem mix_bH (lo hi : ℕ) (w : Fin 64 → FVec F S1x256x64 .f32) (f : Wide F .f32) (n : Fin 64) (h : ¬ (lo ≤ (n : ℕ) ∧ (n : ℕ) < hi)) :
    bH (TH.mix lo hi w f) n = bH f n := funext fun j => TH.mix_idx lo hi w f n h j
theorem mix_bL (lo hi : ℕ) (w : Fin 64 → FVec F S1x256x1 .f32) (f : S4x256x16.Idx → Elt F .f32) (n : Fin 64) (h : ¬ (lo ≤ (n : ℕ) ∧ (n : ℕ) < hi)) :
    bL (TL.mix lo hi w f) n = bL f n := funext fun j => TL.mix_idx lo hi w f n h j

theorem kpH_sub (b : Fin 3) (n : Fin 64) (h : (n : ℕ) / 16 = b) : (kpM.access (rH n)).set ⊆ (rP (pcB b)).set :=
  (View.set_slice_whole cc0_scratch0 _).le.trans (head_sub_piece b n h)
theorem vpH_sub (b : Fin 3) (n : Fin 64) (h : (n : ℕ) / 16 = b) : (vpM.access (rH n)).set ⊆ (rP (pcB b)).set :=
  (View.set_slice_whole cc0_scratch1 _).le.trans (head_sub_piece b n h)
theorem kpC_sub (j : Fin 2) (h : Fin 16) : (kpM.access (rC j h)).set ⊆ (rP (pcC j)).set :=
  (View.set_slice_whole cc0_scratch0 _).le.trans (half_sub_piece j h)
theorem vpC_sub (j : Fin 2) (h : Fin 16) : (vpM.access (rC j h)).set ⊆ (rP (pcC j)).set :=
  (View.set_slice_whole cc0_scratch1 _).le.trans (half_sub_piece j h)
theorem gH_sub (b : Fin 4) (n : Fin 64) (h : (n : ℕ) / 16 = b) : (gM.access (rH n)).set ⊆ (rB b).set :=
  (View.set_slice_whole cc0_scratch4 _).le.trans (head_sub_row b n h)
theorem gH_sub' (b : Fin 4) (n : Fin 64) (h : (n : ℕ) / 16 = b) : (gM.access (rH n)).setOn Finset.univ ⊆ (rB b).set := by
  rw [View.setOn_univ]; exact gH_sub b n h

theorem blk_div (b : Fin 3) (h : Fin 16) : ((blk b h : Fin 64) : ℕ) / 16 = b := by
  have := h.2; show (16 * (b : ℕ) + (h : ℕ)) / 16 = b; omega
theorem last_div (h : Fin 16) : ((lastN h : Fin 64) : ℕ) / 16 = 3 := by
  have := h.2; show (48 + (h : ℕ)) / 16 = 3; omega

theorem wOut_blk (b : Fin 3) (h : Fin 16) : wB Q K V KP VP (blk b h) = wOut Q K V KP VP (blk b h) := by
  have := b.2
  have := h.2
  exact (if_pos (show 16 * (b : ℕ) + (h : ℕ) < 48 by omega)).symm
theorem wOut_last (h : Fin 16) : wD Q K V KP VP (lastN h) = wOut Q K V KP VP (lastN h) :=
  (if_neg (show ¬ 48 + (h : ℕ) < 48 by omega)).symm

def invB (b : Fin 3) (g0 : Wide F .bf16) (h : ℕ) : sProp 𝕄 :=
  iprop(pts c qM Finset.univ fullShare Q ∗ pts c kpM (rP (pcB b)).set fullShare KP ∗ pts c vpM (rP (pcB b)).set fullShare VP
    ∗ pts c lM Finset.univ fullShare (L0 Q K) ∗ pts c aM Finset.univ fullShare (A0 Q K V)
    ∗ pts c gM (rB (rowB b)).set fullShare (TH.mix (16 * b) (16 * b + h) (wOut Q K V KP VP) g0))

theorem headB_run (b : Fin 3) (g0 : Wide F .bf16) (h : Fin 16) (Kt : PUnit → sProp 𝕄) :
    iprop(invB c Q K V KP VP b g0 h ∗ (invB c Q K V KP VP b g0 (h + 1) -∗ Kt ⟨⟩))
      ⊢ wp frame (wpE (defs₀ (F := F)) 𝒱₀ c none) Set.univ (headB (blk b h)) Kt := by
  unfold invB headB
  iintro ⟨⟨Hq, HK, Hv, Hl, Ha, Hg⟩, Hk⟩
  iapply (wp_load_rect 𝒱₀ (c : Thread nD τ) none Set.univ (m := qM) (r := rH (blk b h)) (Finset.subset_univ _)) $$ Hq; iintro Hq
  iapply (wp_load_rect 𝒱₀ (c : Thread nD τ) none Set.univ (m := kpM) (r := rH (blk b h)) (kpH_sub b _ (blk_div b h))) $$ HK; iintro HK
  iapply (wp_load_rect 𝒱₀ (c : Thread nD τ) none Set.univ (m := vpM) (r := rH (blk b h)) (vpH_sub b _ (blk_div b h))) $$ Hv; iintro Hv
  iapply (wp_load_rect 𝒱₀ (c : Thread nD τ) none Set.univ (m := aM) (r := rH (blk b h)) (Finset.subset_univ _)) $$ Ha; iintro Ha
  iapply (wp_load_rect 𝒱₀ (c : Thread nD τ) none Set.univ (m := lM) (r := rL (blk b h)) (Finset.subset_univ _)) $$ Hl; iintro Hl
  iapply (wp_load_rect 𝒱₀ (c : Thread nD τ) none Set.univ (m := gM) (r := rH (blk b h)) (gH_sub (rowB b) _ (blk_div b h))) $$ Hg; iintro Hg
  rw [rq, rkp, rvp, ra, rl]
  iapply (wp_store 𝒱₀ (c : Thread nD τ) none Set.univ (m := gM) (r := rH (blk b h)) (gH_sub' (rowB b) _ (blk_div b h))) $$ Hg; iintro Hg
  rw [wp_ret]
  imodintro
  iapply Hk
  isplitl [Hq]; · iexact Hq
  isplitl [HK]; · iexact HK
  isplitl [Hv]; · iexact Hv
  isplitl [Hl]; · iexact Hl
  isplitl [Ha]; · iexact Ha
  iapply (wr_G c (rB (rowB b)).set (16 * b) (wOut Q K V KP VP) g0 (blk b h) (Nat.le_add_right _ _)
    (quot (wsum (bH Q (blk b h)) (bH KP (blk b h)) (bH VP (blk b h))) (rsum (bH Q (blk b h)) (bH KP (blk b h)))
      (bH (A0 Q K V) (blk b h)) (bL (L0 Q K) (blk b h))) (wOut_blk Q K V KP VP b h)) $$ Hg

def invC (h : ℕ) : sProp 𝕄 :=
  iprop(pts c qM Finset.univ fullShare Q ∗ pts c kpM (rP (pcC 0)).set fullShare KP ∗ pts c vpM (rP (pcC 0)).set fullShare VP
    ∗ pts c lM Finset.univ fullShare (TL.mix 48 (48 + h) (wCl Q K KP) (L0 Q K))
    ∗ pts c aM Finset.univ fullShare (TH.mix 48 (48 + h) (wC Q K V KP VP) (A0 Q K V)))

theorem headC_run (h : Fin 16) (Kt : PUnit → sProp 𝕄) :
    iprop(invC c Q K V KP VP h ∗ (invC c Q K V KP VP (h + 1) -∗ Kt ⟨⟩))
      ⊢ wp frame (wpE (defs₀ (F := F)) 𝒱₀ c none) Set.univ (headC h) Kt := by
  unfold invC headC
  iintro ⟨⟨Hq, HK, Hv, Hl, Ha⟩, Hk⟩
  iapply (wp_load_rect 𝒱₀ (c : Thread nD τ) none Set.univ (m := qM) (r := rH (lastN h)) (Finset.subset_univ _)) $$ Hq; iintro Hq
  iapply (wp_load_rect 𝒱₀ (c : Thread nD τ) none Set.univ (m := kpM) (r := rC 0 h) (kpC_sub 0 h)) $$ HK; iintro HK
  iapply (wp_load_rect 𝒱₀ (c : Thread nD τ) none Set.univ (m := vpM) (r := rC 0 h) (vpC_sub 0 h)) $$ Hv; iintro Hv
  iapply (wp_load_rect 𝒱₀ (c : Thread nD τ) none Set.univ (m := aM) (r := rH (lastN h)) (Finset.subset_univ _)) $$ Ha; iintro Ha
  iapply (wp_load_rect 𝒱₀ (c : Thread nD τ) none Set.univ (m := aM) (r := rH (lastN h)) (Finset.subset_univ _)) $$ Ha; iintro Ha
  rw [rq, rkc, rvc, ra, mix_bH _ _ _ _ (lastN h) (show ¬ (48 ≤ 48 + (h : ℕ) ∧ 48 + (h : ℕ) < 48 + h) by omega)]
  iapply (wp_store 𝒱₀ (c : Thread nD τ) none Set.univ (m := aM) (r := rH (lastN h)) (Finset.subset_univ _)) $$ Ha; iintro Ha
  iapply (wp_load_rect 𝒱₀ (c : Thread nD τ) none Set.univ (m := lM) (r := rL (lastN h)) (Finset.subset_univ _)) $$ Hl; iintro Hl
  iapply (wp_load_rect 𝒱₀ (c : Thread nD τ) none Set.univ (m := lM) (r := rL (lastN h)) (Finset.subset_univ _)) $$ Hl; iintro Hl
  rw [rl, mix_bL _ _ _ _ (lastN h) (show ¬ (48 ≤ 48 + (h : ℕ) ∧ 48 + (h : ℕ) < 48 + h) by omega)]
  iapply (wp_store 𝒱₀ (c : Thread nD τ) none Set.univ (m := lM) (r := rL (lastN h)) (Finset.subset_univ _)) $$ Hl; iintro Hl
  rw [wp_ret]
  imodintro
  iapply Hk
  isplitl [Hq]; · iexact Hq
  isplitl [HK]; · iexact HK
  isplitl [Hv]; · iexact Hv
  isplitl [Hl]
  · iapply (wr_L c 48 (wCl Q K KP) (L0 Q K) (lastN h) (Nat.le_add_right _ _)
      (payL' (bH Q (lastN h)) (bC KP 0 h) (bL (L0 Q K) (lastN h))) (by unfold wCl; rw [hd_last])) $$ Hl
  · iapply (wr_A c 48 (wC Q K V KP VP) (A0 Q K V) (lastN h) (Nat.le_add_right _ _)
      (payA' (bH Q (lastN h)) (bC KP 0 h) (bC VP 0 h) (bH (A0 Q K V) (lastN h))) (by unfold wC; rw [hd_last])) $$ Ha

def invD (g0 : Wide F .bf16) (h : ℕ) : sProp 𝕄 :=
  iprop(pts c qM Finset.univ fullShare Q ∗ pts c kpM (rP (pcC 1)).set fullShare KP ∗ pts c vpM (rP (pcC 1)).set fullShare VP
    ∗ pts c lM Finset.univ fullShare (L1 Q K KP) ∗ pts c aM Finset.univ fullShare (A1 Q K V KP VP)
    ∗ pts c gM (rB 3).set fullShare (TH.mix 48 (48 + h) (wOut Q K V KP VP) g0))

theorem headD_run (g0 : Wide F .bf16) (h : Fin 16) (Kt : PUnit → sProp 𝕄) :
    iprop(invD c Q K V KP VP g0 h ∗ (invD c Q K V KP VP g0 (h + 1) -∗ Kt ⟨⟩))
      ⊢ wp frame (wpE (defs₀ (F := F)) 𝒱₀ c none) Set.univ (headD h) Kt := by
  unfold invD headD
  iintro ⟨⟨Hq, HK, Hv, Hl, Ha, Hg⟩, Hk⟩
  iapply (wp_load_rect 𝒱₀ (c : Thread nD τ) none Set.univ (m := qM) (r := rH (lastN h)) (Finset.subset_univ _)) $$ Hq; iintro Hq
  iapply (wp_load_rect 𝒱₀ (c : Thread nD τ) none Set.univ (m := kpM) (r := rC 1 h) (kpC_sub 1 h)) $$ HK; iintro HK
  iapply (wp_load_rect 𝒱₀ (c : Thread nD τ) none Set.univ (m := vpM) (r := rC 1 h) (vpC_sub 1 h)) $$ Hv; iintro Hv
  iapply (wp_load_rect 𝒱₀ (c : Thread nD τ) none Set.univ (m := aM) (r := rH (lastN h)) (Finset.subset_univ _)) $$ Ha; iintro Ha
  iapply (wp_load_rect 𝒱₀ (c : Thread nD τ) none Set.univ (m := lM) (r := rL (lastN h)) (Finset.subset_univ _)) $$ Hl; iintro Hl
  iapply (wp_load_rect 𝒱₀ (c : Thread nD τ) none Set.univ (m := gM) (r := rH (lastN h)) (gH_sub 3 _ (last_div h))) $$ Hg; iintro Hg
  rw [rq, rkc, rvc, ra, rl]
  iapply (wp_store 𝒱₀ (c : Thread nD τ) none Set.univ (m := gM) (r := rH (lastN h)) (gH_sub' 3 _ (last_div h))) $$ Hg; iintro Hg
  rw [wp_ret]
  imodintro
  iapply Hk
  isplitl [Hq]; · iexact Hq
  isplitl [HK]; · iexact HK
  isplitl [Hv]; · iexact Hv
  isplitl [Hl]; · iexact Hl
  isplitl [Ha]; · iexact Ha
  iapply (wr_G c (rB 3).set 48 (wOut Q K V KP VP) g0 (lastN h) (Nat.le_add_right _ _)
    (quot (wsumC (bH Q (lastN h)) (bC KP 1 h) (bC VP 1 h)) (rsumC (bH Q (lastN h)) (bC KP 1 h))
      (bH (A1 Q K V KP VP) (lastN h)) (bL (L1 Q K KP) (lastN h)))
    (by rw [← wOut_last]; unfold wD; rw [hd_last])) $$ Hg

/-! ## The four phases' loops -/

theorem loopA (l0 : S4x256x16.Idx → Elt F .f32) (a0 : Wide F .f32) (Kt : PUnit → sProp 𝕄) :
    iprop((pts c qM Finset.univ fullShare Q ∗ pts c kM Finset.univ hf K ∗ pts c vM Finset.univ hf V
        ∗ pts c lM Finset.univ fullShare l0 ∗ pts c aM Finset.univ fullShare a0)
      ∗ ((pts c qM Finset.univ fullShare Q ∗ pts c kM Finset.univ hf K ∗ pts c vM Finset.univ hf V
        ∗ pts c lM Finset.univ fullShare (L0 Q K) ∗ pts c aM Finset.univ fullShare (A0 Q K V)) -∗ Kt ⟨⟩))
      ⊢ wp frame (wpE (defs₀ (F := F)) 𝒱₀ c none) Set.univ (seqFin 64 headA) Kt := by
  have h := wp_seqFin c 64 (invA c Q K V l0 a0) (headA (F := F)) (headA_run c Q K V l0 a0) Kt
  unfold invA at h
  rw [TL.mix_self, TH.mix_self, TL.mix_all, TH.mix_all] at h
  exact h

theorem loopB (b : Fin 3) (g0 : Wide F .bf16) (Kt : PUnit → sProp 𝕄) :
    iprop((pts c qM Finset.univ fullShare Q ∗ pts c kpM (rP (pcB b)).set fullShare KP ∗ pts c vpM (rP (pcB b)).set fullShare VP
        ∗ pts c lM Finset.univ fullShare (L0 Q K) ∗ pts c aM Finset.univ fullShare (A0 Q K V)
        ∗ pts c gM (rB (rowB b)).set fullShare g0)
      ∗ ((pts c qM Finset.univ fullShare Q ∗ pts c kpM (rP (pcB b)).set fullShare KP ∗ pts c vpM (rP (pcB b)).set fullShare VP
        ∗ pts c lM Finset.univ fullShare (L0 Q K) ∗ pts c aM Finset.univ fullShare (A0 Q K V)
        ∗ pts c gM (rB (rowB b)).set fullShare (OUT Q K V KP VP)) -∗ Kt ⟨⟩))
      ⊢ wp frame (wpE (defs₀ (F := F)) 𝒱₀ c none) Set.univ (seqFin 16 fun h => headB (blk b h)) Kt := by
  have h := wp_seqFin c 16 (invB c Q K V KP VP b g0) (fun h => headB (F := F) (blk b h)) (headB_run c Q K V KP VP b g0) Kt
  unfold invB at h
  rw [Nat.add_zero, TH.mix_self] at h
  have e : (pts c gM (rB (rowB b)).set fullShare (TH.mix (16 * b) (16 * b + 16) (wOut Q K V KP VP) g0) : sProp 𝕄)
      = pts c gM (rB (rowB b)).set fullShare (OUT Q K V KP VP) := pointsTo_congr (mix_row (rowB b) _ g0)
  rw [e] at h
  exact h

theorem loopC (Kt : PUnit → sProp 𝕄) :
    iprop((pts c qM Finset.univ fullShare Q ∗ pts c kpM (rP (pcC 0)).set fullShare KP ∗ pts c vpM (rP (pcC 0)).set fullShare VP
        ∗ pts c lM Finset.univ fullShare (L0 Q K) ∗ pts c aM Finset.univ fullShare (A0 Q K V))
      ∗ ((pts c qM Finset.univ fullShare Q ∗ pts c kpM (rP (pcC 0)).set fullShare KP ∗ pts c vpM (rP (pcC 0)).set fullShare VP
        ∗ pts c lM Finset.univ fullShare (L1 Q K KP) ∗ pts c aM Finset.univ fullShare (A1 Q K V KP VP)) -∗ Kt ⟨⟩))
      ⊢ wp frame (wpE (defs₀ (F := F)) 𝒱₀ c none) Set.univ (seqFin 16 headC) Kt := by
  have h := wp_seqFin c 16 (invC c Q K V KP VP) (headC (F := F)) (headC_run c Q K V KP VP) Kt
  unfold invC at h
  rw [TL.mix_self, TH.mix_self] at h
  exact h

theorem loopD (g0 : Wide F .bf16) (Kt : PUnit → sProp 𝕄) :
    iprop((pts c qM Finset.univ fullShare Q ∗ pts c kpM (rP (pcC 1)).set fullShare KP ∗ pts c vpM (rP (pcC 1)).set fullShare VP
        ∗ pts c lM Finset.univ fullShare (L1 Q K KP) ∗ pts c aM Finset.univ fullShare (A1 Q K V KP VP)
        ∗ pts c gM (rB 3).set fullShare g0)
      ∗ ((pts c qM Finset.univ fullShare Q ∗ pts c kpM (rP (pcC 1)).set fullShare KP ∗ pts c vpM (rP (pcC 1)).set fullShare VP
        ∗ pts c lM Finset.univ fullShare (L1 Q K KP) ∗ pts c aM Finset.univ fullShare (A1 Q K V KP VP)
        ∗ pts c gM (rB 3).set fullShare (OUT Q K V KP VP)) -∗ Kt ⟨⟩))
      ⊢ wp frame (wpE (defs₀ (F := F)) 𝒱₀ c none) Set.univ (seqFin 16 headD) Kt := by
  have h := wp_seqFin c 16 (invD c Q K V KP VP g0) (headD (F := F)) (headD_run c Q K V KP VP g0) Kt
  unfold invD at h
  rw [Nat.add_zero, TH.mix_self] at h
  have e : (pts c gM (rB 3).set fullShare (TH.mix 48 (48 + 16) (wOut Q K V KP VP) g0) : sProp 𝕄)
      = pts c gM (rB 3).set fullShare (OUT Q K V KP VP) := pointsTo_congr (mix_row 3 _ g0)
  rw [e] at h
  exact h

end Heads

end Cert.KernelIdeal.Pair

end
-- ==== Proof.Talk.lean ====
/- The protocol between a device and the one at the other end of its x axis: what each semaphore's duty pays, the order of the
   waits, and the steps of the body that signal, send and wait. -/
module

public import proofs.«01_k».proof.Proof.Heads
public import Idealize.ShloMosaic.Lib.Pipeline.Kit

@[expose] public section

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## The other end, the cells -/

/-- The device at the other end of the x axis. -/
abbrev pr (c : Dev nD) : Dev nD := prD c
theorem pr_pr : ∀ c : Dev nD, pr (pr c) = c := by decide
def ends : Dev nD ≃ Dev nD := ⟨pr, pr, pr_pr, pr_pr⟩

abbrev barCell (c : Dev nD) : GSem nD τ sig := ((c : Thread nD τ), .reg barrier0)
abbrev dcell (c : Dev nD) (x : Fin 24) : GSem nD τ sig := ((c : Thread nD τ), .dma (dsem x))

/-- What a semaphore is for. -/
inductive Role where
  | none | send (v : Bool) (p : Fin 5) | recv (v : Bool) (p : Fin 5) | out (b : Fin 4)
deriving DecidableEq

def role (s : DmaSem sig) : Role :=
  if s.val < 3 then .none
  else if s.val < 13 then .send ((s.val - 3) % 2 = 1) ⟨(s.val - 3) / 2 % 5, Nat.mod_lt _ (by decide)⟩
  else if s.val < 23 then .recv ((s.val - 13) % 2 = 1) ⟨(s.val - 13) / 2 % 5, Nat.mod_lt _ (by decide)⟩
  else .out ⟨(s.val - 23) % 4, Nat.mod_lt _ (by decide)⟩

theorem role_send : ∀ v p, role (dsem (sx v p)) = .send v p := by decide
theorem role_recv : ∀ v p, role (dsem (rx v p)) = .recv v p := by decide
theorem role_out : ∀ b, role (dsem (ox b)) = .out b := by decide

abbrev NP (v : Bool) (p : Fin 5) : ℕ := (xdst v p).view.dmaCredit
abbrev NO (b : Fin 4) : ℕ := (row oM b).view.dmaCredit
theorem NP_pos (v : Bool) (p : Fin 5) : 0 < NP v p := View.dmaCredit_pos _ (by revert p; decide)
theorem NO_pos (b : Fin 4) : 0 < NO b := View.dmaCredit_pos _ (by decide)
theorem NP_src (v : Bool) (p : Fin 5) : (xsrc v p).view.dmaCredit = NP v p := by cases v <;> rfl

/-! ## Pieces and rows through the views that move them -/

theorem set_pk (p : Fin 5) : (pc kM p).view.set = (rP p).set := (View.set_reshape _ _).trans (View.set_slice_whole cc0_stg1_0 _)
theorem set_pv (p : Fin 5) : (pc vM p).view.set = (rP p).set := (View.set_reshape _ _).trans (View.set_slice_whole cc0_stg2_0 _)
theorem set_pkp (p : Fin 5) : (pc kpM p).view.set = (rP p).set := (View.set_reshape _ _).trans (View.set_slice_whole cc0_scratch0 _)
theorem set_pvp (p : Fin 5) : (pc vpM p).view.set = (rP p).set := (View.set_reshape _ _).trans (View.set_slice_whole cc0_scratch1 _)
theorem set_rg (b : Fin 4) : (row gM b).view.set = (rB b).set := (View.set_reshape _ _).trans (View.set_slice_whole cc0_scratch4 _)
theorem set_ro (b : Fin 4) : (row oM b).view.set = (rB b).set := (View.set_reshape _ _).trans (View.set_slice_whole main_v7 _)

/-- A write through a view of what the view reads of `fs` puts `fs` on its elements. -/
theorem own_eq {sp : Space} {s : Shape} {e : EltTy} (v : View sig .tc sp s e) (fd fs : v.ty.Contents (Elt F)) :
    ∀ i ∈ v.set, v.write (Elt F) fd (v.read (Elt F) fs) Finset.univ i = fs i := by
  intro i hi
  rw [View.write_read_eq_piecewise]
  exact Finset.piecewise_eq_of_mem _ _ _ hi

theorem land_k (p : Fin 5) (fd fs : Wide F .bf16) : ∀ i ∈ (rP p).set,
    (pc kpM p).view.write (Elt F) fd ((pc kM p).view.read (Elt F) fs) Finset.univ i = fs i :=
  fun i hi => own_eq (F := F) (pc kpM p).view fd fs i ((set_pkp p).symm ▸ hi)
theorem land_v (p : Fin 5) (fd fs : Wide F .bf16) : ∀ i ∈ (rP p).set,
    (pc vpM p).view.write (Elt F) fd ((pc vM p).view.read (Elt F) fs) Finset.univ i = fs i :=
  fun i hi => own_eq (F := F) (pc vpM p).view fd fs i ((set_pvp p).symm ▸ hi)
theorem land_o (b : Fin 4) (fd fs : Wide F .bf16) : ∀ i ∈ (rB b).set,
    (row oM b).view.write (Elt F) fd ((row gM b).view.read (Elt F) fs) Finset.univ i = fs i :=
  fun i hi => own_eq (F := F) (row oM b).view fd fs i ((set_ro b).symm ▸ hi)

/-! ## The schedule -/

/-- What every device's three staged arrays hold. -/
structure Ins (F : FTy → Type) where
  Q : Dev nD → Wide F .bf16
  K : Dev nD → Wide F .bf16
  V : Dev nD → Wide F .bf16

variable (X : Ins F)

/-- What device c computes: attention over its own rows and the other end's. -/
def Ins.out (c : Dev nD) : Wide F .bf16 := OUT (X.Q c) (X.K c) (X.V c) (X.K (pr c)) (X.V (pr c))

abbrev lf : PosShare TreeShare := fullShare.left

/-- A piece of an own array, the half share a transfer reads it at. -/
def srcP (c : Dev nD) : Bool → Fin 5 → sProp 𝕄
  | false, p => pts c kM (rP p).set lf (X.K c)
  | true, p => pts c vM (rP p).set lf (X.V c)
/-- A piece of a landing buffer, at whatever it holds. -/
def dstP (c : Dev nD) : Bool → Fin 5 → sProp 𝕄
  | false, p => iprop(∃ f : Wide F .bf16, pts c kpM (rP p).set fullShare f)
  | true, p => iprop(∃ f : Wide F .bf16, pts c vpM (rP p).set fullShare f)
/-- The same once the other end's piece has landed. -/
def gotP (c : Dev nD) : Bool → Fin 5 → sProp 𝕄
  | false, p => pts c kpM (rP p).set fullShare (X.K (pr c))
  | true, p => pts c vpM (rP p).set fullShare (X.V (pr c))
/-- A row of the result once it is out, with the row it was copied from. -/
def outPay (c : Dev nD) (b : Fin 4) : sProp 𝕄 :=
  iprop(pts c oM (rB b).set fullShare (X.out c) ∗ pts c gM (rB b).set fullShare (X.out c))

/-- Something of every transfer, the keys' and the values'. -/
def prs (Φ : Bool → Fin 5 → sProp 𝕄) : sProp 𝕄 := bigSep Finset.univ fun p => iprop(Φ false p ∗ Φ true p)

/-- Paid to device c's barrier by the other end: the other end's landing buffers, and that its receipt cells are in round 0. -/
def barPay (c : Dev nD) : sProp 𝕄 := iprop(prs (F := F) (dstP (pr c)) ∗ prs (F := F) fun v p => reached ER (dcell (pr c) (rx v p)) 0)

def payD (c : Dev nD) : Role → sProp 𝕄
  | .none => iprop(emp)
  | .send v p => srcP X c v p
  | .recv v p => gotP X c v p
  | .out b => outPay X c b
def amtD : Role → ℕ
  | .none => 1
  | .send v p => NP v p
  | .recv v p => NP v p
  | .out b => NO b
theorem amtD_pos : ∀ r, 0 < amtD r
  | .none => Nat.one_pos
  | .send v p => NP_pos v p
  | .recv v p => NP_pos v p
  | .out b => NO_pos b

def talks : SemLoc sig → Bool
  | .reg _ => true
  | .dma s => decide (3 ≤ s.val)

def paySem (c : Dev nD) : SemLoc sig → sProp 𝕄
  | .reg _ => barPay c
  | .dma s => payD X c (role s)
def amtSem : SemLoc sig → ℕ
  | .reg _ => 1
  | .dma s => amtD (role s)

/-- Round 0 of every barrier and every DMA cell of the kernel's own has one duty. -/
def talkRd : Rounds.Schedule (GSem nD τ sig) Unit 𝕄 where
  duties g r := if r = 0 ∧ g.1.2 = .tc ∧ talks g.2 = true then {()} else ∅
  unitless _ := False
  amount g _ _ := amtSem g.2
  payload g _ _ := paySem X g.1.1 g.2
  amount_pos g _ _ _ := by
    rcases g with ⟨t, s | s⟩
    · exact Nat.one_pos
    · exact amtD_pos _

instance srcP_storable (c : Dev nD) (v : Bool) (p : Fin 5) : BI.Storable (upEmb : UEmb _ 𝕄) (srcP X c v p) := by
  cases v <;> (unfold srcP; infer_instance)
instance dstP_storable (c : Dev nD) (v : Bool) (p : Fin 5) : BI.Storable (upEmb : UEmb _ 𝕄) (dstP (F := F) c v p) := by
  cases v <;> (unfold dstP; infer_instance)
instance gotP_storable (c : Dev nD) (v : Bool) (p : Fin 5) : BI.Storable (upEmb : UEmb _ 𝕄) (gotP X c v p) := by
  cases v <;> (unfold gotP; infer_instance)
instance outPay_storable (c : Dev nD) (b : Fin 4) : BI.Storable (upEmb : UEmb _ 𝕄) (outPay X c b) := by
  unfold outPay; infer_instance
instance prs_storable (Φ : Bool → Fin 5 → sProp 𝕄) [∀ v p, BI.Storable (upEmb : UEmb _ 𝕄) (Φ v p)] : BI.Storable (upEmb : UEmb _ 𝕄) (prs Φ) := by
  unfold prs; infer_instance
instance barPay_storable (c : Dev nD) : BI.Storable (upEmb : UEmb _ 𝕄) (barPay (F := F) c) := by
  unfold barPay; infer_instance

instance talkRd_payload_storable (g : GSem nD τ sig) (r : ℕ) (d : Unit) :
    BI.Storable (upEmb : UEmb _ 𝕄) ((talkRd X).payload g r d) := by
  rcases g with ⟨t, s | s⟩
  · exact barPay_storable t.1
  · show BI.Storable upEmb (payD X t.1 (role s))
    cases role s <;> (unfold payD; infer_instance)

section Sched

variable (c : Dev nD) (x : Fin 24)

theorem duties_bar : (talkRd X).duties (barCell c) 0 = {()} := by dsimp only [talkRd]; exact if_pos ⟨rfl, rfl, rfl⟩
theorem duties_dma : (talkRd X).duties (dcell c x) 0 = {()} :=
  if_pos ⟨rfl, rfl, by show decide (3 ≤ 3 + x.val) = true; exact decide_eq_true (Nat.le_add_right 3 _)⟩
theorem mem_bar : () ∈ (talkRd X).duties (barCell c) 0 := by rw [duties_bar]; exact Finset.mem_singleton_self _
theorem mem_dma : () ∈ (talkRd X).duties (dcell c x) 0 := by rw [duties_dma]; exact Finset.mem_singleton_self _
theorem duties_later (g : GSem nD τ sig) : ∀ r, 1 ≤ r → (talkRd X).duties g r = ∅ :=
  fun r hr => if_neg (fun h => by omega)

theorem amount_send (v : Bool) (p : Fin 5) : (talkRd X).amount (dcell c (sx v p)) 0 () = NP v p := congrArg amtD (role_send v p)
theorem amount_recv (v : Bool) (p : Fin 5) : (talkRd X).amount (dcell c (rx v p)) 0 () = NP v p := congrArg amtD (role_recv v p)
theorem amount_out (b : Fin 4) : (talkRd X).amount (dcell c (ox b)) 0 () = NO b := congrArg amtD (role_out b)
theorem payload_send (v : Bool) (p : Fin 5) : (talkRd X).payload (dcell c (sx v p)) 0 () = srcP X c v p := congrArg (payD X c) (role_send v p)
theorem payload_recv (v : Bool) (p : Fin 5) : (talkRd X).payload (dcell c (rx v p)) 0 () = gotP X c v p := congrArg (payD X c) (role_recv v p)
theorem payload_out (b : Fin 4) : (talkRd X).payload (dcell c (ox b)) 0 () = outPay X c b := congrArg (payD X c) (role_out b)

theorem expect_bar : (talkRd X).expect (barCell c) 0 = 1 := by
  unfold Schedule.expect Schedule.amountOf; rw [duties_bar, Finset.sum_singleton]; rfl
theorem expect_dma : (talkRd X).expect (dcell c x) 0 = (talkRd X).amount (dcell c x) 0 () := by
  unfold Schedule.expect Schedule.amountOf; rw [duties_dma, Finset.sum_singleton]
theorem rest_bar : bigSep ((talkRd X).duties (barCell c) 0 \ ∅) (fun u => (talkRd X).payload (barCell c) 0 u) = barPay c := by
  rw [Finset.sdiff_empty, duties_bar, bigSep_singleton]; rfl
theorem rest_dma : bigSep ((talkRd X).duties (dcell c x) 0 \ ∅) (fun u => (talkRd X).payload (dcell c x) 0 u)
    = (talkRd X).payload (dcell c x) 0 () := by
  rw [Finset.sdiff_empty, duties_dma, bigSep_singleton]

end Sched

/-! ## What a device owes at launch, and the order of the waits -/

/-- The two receipts piece `p` pays at the other end. -/
abbrev debt (c : Dev nD) (p : Fin 5) : CellTallies nD τ sig Unit :=
  tallyAt (dcell (pr c) (rx true p)) () (NP true p) + tallyAt (dcell (pr c) (rx false p)) () (NP false p)
abbrev debts (c : Dev nD) : CellTallies nD τ sig Unit := ∑ p, debt c p
/-- All ten, and the other end's barrier unit. -/
def O₀ (c : Dev nD) : CellTallies nD τ sig Unit := debts c + tallyAt (barCell (pr c)) () 1

def L (g : GSem nD τ sig) : Finset Unit := if g.1.2 = .tc then {()} else ∅
/-- Barriers at 1, receipts at 2, the rest at 0. -/
def lv (g : GSem nD τ sig) (_ : Unit) : ℕ :=
  match g.2 with
  | .reg _ => 1
  | .dma s => match role s with | .recv _ _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (v : Bool) (p : Fin 5) (u : Unit) : lv (dcell c (rx v p)) u = 2 := by
  unfold lv; show (match role (dsem (rx v p)) with | .recv _ _ => 2 | _ => 0) = 2; rw [role_recv]

theorem tally_pos {g g' : GSem nD τ sig} {u u' : Unit} {n : ℕ} (h : 0 < tallyAt g' u' n g u) : g = g' := by
  rw [tallyAt_apply] at h
  split at h
  · next hg => exact hg.1
  · exact absurd h (Nat.lt_irrefl 0)

theorem debts_pos {c : Dev nD} {g : GSem nD τ sig} {u : Unit} (h : 0 < debts c g u) : ∃ v p, g = dcell (pr c) (rx v p) := by
  have h' : debts c g u = ∑ p, debt c p g u := by
    unfold debts; rw [Finset.sum_apply, Finsupp.finset_sum_apply]
  rw [h'] at h
  obtain ⟨p, -, hp⟩ := Finset.exists_ne_zero_of_sum_ne_zero h.ne'
  have hp' : 0 < debt c p g u := Nat.pos_of_ne_zero hp
  unfold debt at hp'
  rw [Pi.add_apply, Finsupp.add_apply] at hp'
  rcases Nat.add_pos_iff_pos_or_pos.mp hp' with h | h
  · exact ⟨true, p, tally_pos h⟩
  · exact ⟨false, p, tally_pos h⟩

theorem O₀_pos {c : Dev nD} {g : GSem nD τ sig} {u : Unit} (h : 0 < O₀ c g u) :
    (∃ v p, g = dcell (pr c) (rx v p)) ∨ g = barCell (pr c) := by
  unfold O₀ at h
  rw [Pi.add_apply, Finsupp.add_apply] at h
  rcases Nat.add_pos_iff_pos_or_pos.mp h with h | h
  · exact .inl (debts_pos h)
  · exact .inr (tally_pos h)

theorem mayWait_bar (c : Dev nD) :
    (levAts L lv : sProp 𝕄) ⊢ MayWait (c : Thread nD τ) (.reg barrier0) () (debts c) :=
  MayOwe.of_cut (L := L) (lev := lv) 1 (fun p hp => by rw [Finset.mem_singleton.mp hp, L_tc]; exact Finset.mem_singleton_self _)
    (fun g u hg => by
      obtain ⟨v, p, rfl⟩ := debts_pos hg
      rw [L_tc]; exact Finset.mem_singleton_self _)
    (fun p hp => by rw [Finset.mem_singleton.mp hp]; exact le_refl 1)
    (fun g u hg => by
      obtain ⟨v, p, rfl⟩ := debts_pos hg
      rw [lv_recv]; decide)

/-! ## The cells' invariants -/

def barEmb : Dev nD ↪ GSem nD τ sig := ⟨fun c => barCell c, fun _ _ h => congrArg (fun g : GSem nD τ sig => g.1.1) h⟩
theorem dsem_inj : Function.Injective dsem := by decide
def dmaEmb : Dev nD × Fin 24 ↪ GSem nD τ sig :=
  ⟨fun ck => dcell ck.1 ck.2, fun _ _ h =>
    Prod.ext (congrArg (fun g : GSem nD τ sig => g.1.1) h) (dsem_inj (SemLoc.dma.inj (congrArg Prod.snd h)))⟩
abbrev barCells : Finset (GSem nD τ sig) := Finset.univ.map barEmb
abbrev dmaCells : Finset (GSem nD τ sig) := Finset.univ.map dmaEmb

/-- Every cell's invariant, under one map of names; round 0 of every barrier reached. -/
def records (κ : GSem nD τ sig → ℕ) : sProp 𝕄 :=
  iprop((bigSep (barCells ∪ dmaCells) fun g => cellInv ER (talkRd X) (κ g) g) ∗ bigSep barCells fun g => reached ER g 0)
instance records_persistent (κ : GSem nD τ sig → ℕ) : BI.Persistent (records X κ) := by unfold records; infer_instance

theorem inv_at (κ : GSem nD τ sig → ℕ) {g : GSem nD τ sig} (hg : g ∈ (barCells ∪ dmaCells : Finset (GSem nD τ sig))) :
    (bigSep (barCells ∪ dmaCells) fun g => (cellInv ER (talkRd X) (κ g) g : sProp 𝕄)) ⊢ cellInv ER (talkRd X) (κ g) g := bigSep_elim hg
theorem reached_at (c : Dev nD) : (bigSep barCells fun g => (reached ER g 0 : sProp 𝕄)) ⊢ reached ER (barCell c) 0 :=
  bigSep_elim (Finset.mem_map_of_mem barEmb (Finset.mem_univ c))
theorem bar_mem (c : Dev nD) : barCell c ∈ (barCells ∪ dmaCells : Finset (GSem nD τ sig)) :=
  Finset.mem_union_left _ (Finset.mem_map_of_mem barEmb (Finset.mem_univ c))
theorem dma_mem (c : Dev nD) (x : Fin 24) : dcell c x ∈ (barCells ∪ dmaCells : Finset (GSem nD τ sig)) :=
  Finset.mem_union_right _ (Finset.mem_map_of_mem dmaEmb (Finset.mem_univ (c, x)))

theorem inv_bar (κ : GSem nD τ sig → ℕ) (c : Dev nD) : records X κ ⊢ cellInv ER (talkRd X) (κ (barCell c)) (barCell c) := by
  unfold records
  iintro ⟨HI, -⟩
  iapply (inv_at X κ (bar_mem c)); iexact HI
theorem inv_dma (κ : GSem nD τ sig → ℕ) (c : Dev nD) (x : Fin 24) :
    records X κ ⊢ cellInv ER (talkRd X) (κ (dcell c x)) (dcell c x) := by
  unfold records
  iintro ⟨HI, -⟩
  iapply (inv_at X κ (dma_mem c x)); iexact HI
theorem reached_bar (κ : GSem nD τ sig → ℕ) (c : Dev nD) : records X κ ⊢ reached ER (barCell c) 0 := by
  unfold records
  iintro ⟨-, HR⟩
  iapply (reached_at (F := F) c); iexact HR

/-! ## The steps -/

theorem closed (κ : GSem nD τ sig → ℕ) (g : GSem nD τ sig) :
    iprop(cellInv ER (talkRd X) (κ g) g ∗ atPos ER g (0 + 1) ∅ 0) ⊢ (|={Set.univ}=> semVal g 0 : sProp 𝕄) :=
  Rounds.cell_close ER (talkRd X) (Set.mem_univ _) id (duties_later X g)

/-- A wait on a DMA cell of the device's own, owing nothing: what its duty paid, and the counter back at zero. -/
theorem wait_step (κ : GSem nD τ sig → ℕ) (c : Dev nD) (x : Fin 24) (n : ℕ) {sp sp' : Space} {s s' : Shape} {e e' : EltTy}
    (src : Memref sig .tc sp s e) (dst : Memref sig .tc sp' s' e') (ws : src.view.WordExact) (wd : dst.view.WordExact)
    (P : sProp 𝕄) (hP : (talkRd X).payload (dcell c x) 0 () = P)
    (ha : (talkRd X).amount (dcell c x) 0 () = n) (hn : dst.view.dmaCredit = n)
    (k : PUnit → Prog (TpuEff nD τ sig (Elt F) Λ₀ Proc.tc) PUnit) (Kt : PUnit → sProp 𝕄) :
    iprop(records X κ ∗ cred (tallyAt (dcell c x) () n) ∗ atPos ER (dcell c x) 0 ∅ 0 ∗ (∃ W, owes (c : Thread nD τ) 0 W))
      ⊢ iprop(((P ∗ semVal (dcell c x) 0 ∗ ∃ W, owes (c : Thread nD τ) 0 W) -∗ wp frame (wpE (defs₀ (F := F)) 𝒱₀ c none) Set.univ (k ⟨⟩) Kt)
          -∗ wp frame (wpE (defs₀ (F := F)) 𝒱₀ c none) Set.univ (.op (.waitDma2 (dsem x) src dst ws wd) k) Kt) := by
  subst hP ha
  iintro ⟨#HR, Hc, Hat, ⟨%W, HO⟩⟩ Hk
  ihave #HI := (inv_dma X κ c x) $$ HR
  iapply (Rounds.wp_wait_rest_token 𝒱₀ ER (talkRd X) (c : Thread nD τ) none (κ := κ (dcell c x))
      (wpE_waitDma2_eq (src := src) (dst := dst) 𝒱₀ (c : Thread nD τ) none Set.univ) (Set.mem_univ _) () (O := 0) (W := W) (R := 0) (m := 0) (T := ∅)
      ((Nat.zero_add _).trans (hn.trans (expect_dma X c x).symm))) $$ [Hc HO Hat]
  · isplitr; · iexact HI
    isplitl [Hc]; · rw [hn]; iexact Hc
    isplitl [HO]; · iexact HO
    isplitr; · rw [MayWait_zero]; iempintro
    iexact Hat
  iintro ⟨HO, Hat, -, Hpay⟩
  imod (closed X κ (dcell c x)) $$ [Hat] with H0
  · isplitr; · iexact HI
    iexact Hat
  iapply Hk
  isplitl [Hpay]; · iapply (Entails.of_eq (rest_dma X c x)) $$ Hpay
  isplitl [H0]; · iexact H0
  iexists _; iexact HO

end Cert.KernelIdeal.Pair

end
-- ==== Proof.Run.lean ====
/- The body's run on one device, from its start to every semaphore closed. -/
module

public import proofs.«01_k».proof.Proof.Talk

@[expose] public section

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.SparseCore.ProtocolKit

variable {F : FTy → Type} [FloatOps F]

local notation "𝕄" => MT nD τ sig Unit (Elt F) ℕ UU ℕ
local notation "𝔓" => Prog (TpuEff nD τ sig (Elt F) Λ₀ Proc.tc) PUnit

variable (X : Ins F) (κ : GSem nD τ sig → ℕ) (c : Dev nD)

/-! ## The sends -/

/-- What one send takes: the piece, where it lands, the two duties it pays and that their rounds are reached. -/
def toSend (v : Bool) (p : Fin 5) : sProp 𝕄 :=
  iprop(srcP X c v p ∗ dstP (pr c) v p ∗ dutyTok ER (dcell c (sx v p)) 0 () ∗ reached ER (dcell c (sx v p)) 0
    ∗ dutyTok ER (dcell (pr c) (rx v p)) 0 () ∗ reached ER (dcell (pr c) (rx v p)) 0)

/-- A send, the two payloads made. -/
theorem send_of (v : Bool) (p : Fin 5) (k : PUnit → 𝔓) (Kt : PUnit → sProp 𝕄) (O : CellTallies nD τ sig Unit) (W : Waits sig Unit)
    (fs : Buf (Elt F) ((xsrc v p).view.loc (c : Thread nD τ))) (fd : Buf (Elt F) ((xdst v p).view.loc (pr c : Thread nD τ)))
    (h₁ : ((xsrc v p).view.loc (c : Thread nD τ) ↦[(xsrc v p).view.set]{lf} fs : sProp 𝕄) ⊢ srcP X c v p)
    (h₂ : ((xdst v p).view.loc (pr c : Thread nD τ) ↦[(xdst v p).view.set]{fullShare}
      ((xdst v p).view.write (Elt F) fd ((xsrc v p).view.read (Elt F) fs) Finset.univ) : sProp 𝕄) ⊢ gotP X (pr c) v p) :
    iprop(records X κ ∗ ((xsrc v p).view.loc (c : Thread nD τ) ↦[(xsrc v p).view.set]{lf} fs)
        ∗ ((xdst v p).view.loc (pr c : Thread nD τ) ↦[(xdst v p).view.set]{fullShare} fd)
        ∗ owes (c : Thread nD τ) (O + tallyAt (dcell (pr c) (rx v p)) () (NP v p)) W
        ∗ dutyTok ER (dcell c (sx v p)) 0 () ∗ reached ER (dcell c (sx v p)) 0
        ∗ dutyTok ER (dcell (pr c) (rx v p)) 0 () ∗ reached ER (dcell (pr c) (rx v p)) 0)
      ⊢ iprop(((cred (tallyAt (dcell c (sx v p)) () (NP v p)) ∗ owes (c : Thread nD τ) O W) -∗ wp frame (wpE (defs₀ (F := F)) 𝒱₀ c none) Set.univ (k ⟨⟩) Kt)
          -∗ wp frame (wpE (defs₀ (F := F)) 𝒱₀ c none) Set.univ (.op (startX c v p) k) Kt) := by
  iintro ⟨#HR, Hs, Hd, HO, Ht, Hr, Ht', Hr'⟩ Hk
  ihave #HI := (inv_dma X κ c (sx v p)) $$ HR
  ihave #HI' := (inv_dma X κ (pr c) (rx v p)) $$ HR
  iapply (Rounds.wp_send_pointsTo 𝒱₀ ER (talkRd X) (c : Thread nD τ) none (c' := (pr c : Thread nD τ)) (src := xsrc v p) (dst := xdst v p)
      (sS := .dma (sendS v p)) (sem := .dma (recvS v p)) (q := lf) (fs := fs) (fd := fd)
      (κ₁ := κ (dcell c (sx v p))) (κ₂ := κ (dcell (pr c) (rx v p))) (r₁ := 0) (r₂ := 0) (d₁ := ()) (d₂ := ())
      (mem_dma X c (sx v p)) (mem_dma X (pr c) (rx v p)) () () (NP v p) rfl (amount_send X c v p) (amount_recv X (pr c) v p) O rfl (W := W)
      (by rw [payload_send]; exact h₁) (by rw [payload_recv]; exact h₂)) $$ [Hs Hd HO Ht Hr Ht' Hr']
  · isplitr; · iexact HI
    isplitr; · iexact HI'
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iexact Hk

theorem send_step (v : Bool) (p : Fin 5) (k : PUnit → 𝔓) (Kt : PUnit → sProp 𝕄) (O : CellTallies nD τ sig Unit) (W : Waits sig Unit) :
    iprop(records X κ ∗ toSend X c v p ∗ owes (c : Thread nD τ) (O + tallyAt (dcell (pr c) (rx v p)) () (NP v p)) W)
      ⊢ iprop(((cred (tallyAt (dcell c (sx v p)) () (NP v p)) ∗ owes (c : Thread nD τ) O W) -∗ wp frame (wpE (defs₀ (F := F)) 𝒱₀ c none) Set.univ (k ⟨⟩) Kt)
          -∗ wp frame (wpE (defs₀ (F := F)) 𝒱₀ c none) Set.univ (.op (startX c v p) k) Kt) := by
  unfold toSend
  cases v
  · iintro ⟨HR, ⟨Hs, Hd, Hrest⟩, HO⟩
    unfold dstP srcP
    icases Hd with ⟨%fd, Hd⟩
    iapply (send_of X κ c false p k Kt O W (X.K c) fd (by unfold srcP; rw [show (xsrc false p).view.set = _ from set_pk p])
      (by
        unfold gotP
        rw [pr_pr, show (xdst false p).view.set = _ from set_pkp p]
        exact Entails.of_eq (pointsTo_congr (land_k p fd (X.K c)))))
    isplitl [HR]; · iexact HR
    isplitl [Hs]; · rw [show (xsrc false p).view.set = _ from set_pk p]; iexact Hs
    isplitl [Hd]; · rw [show (xdst false p).view.set = _ from set_pkp p]; iexact Hd
    isplitl [HO]; · iexact HO
    iexact Hrest
  · iintro ⟨HR, ⟨Hs, Hd, Hrest⟩, HO⟩
    unfold dstP srcP
    icases Hd with ⟨%fd, Hd⟩
    iapply (send_of X κ c true p k Kt O W (X.V c) fd (by unfold srcP; rw [show (xsrc true p).view.set = _ from set_pv p])
      (by
        unfold gotP
        rw [pr_pr, show (xdst true p).view.set = _ from set_pvp p]
        exact Entails.of_eq (pointsTo_congr (land_v p fd (X.V c)))))
    isplitl [HR]; · iexact HR
    isplitl [Hs]; · rw [show (xsrc true p).view.set = _ from set_pv p]; iexact Hs
    isplitl [Hd]; · rw [show (xdst true p).view.set = _ from set_pvp p]; iexact Hd
    isplitl [HO]; · iexact HO
    iexact Hrest

/-- The credit a send leaves. -/
abbrev sent (v : Bool) (p : Fin 5) : sProp 𝕄 := cred (tallyAt (dcell c (sx v p)) () (NP v p))

def invS (W : Waits sig Unit) (j : ℕ) : sProp 𝕄 :=
  iprop(records X κ ∗ owes (c : Thread nD τ) (∑ p ∈ finFrom 5 j, debt c p) W
    ∗ (bigSep (finFrom 5 j) fun p => iprop(toSend X c false p ∗ toSend X c true p))
    ∗ bigSep (finUpTo 5 j) fun p => iprop(sent (F := F) c false p ∗ sent c true p))

theorem startP_run (W : Waits sig Unit) (p : Fin 5) (Kt : PUnit → sProp 𝕄) :
    iprop(invS X κ c W p ∗ (invS X κ c W (p + 1) -∗ Kt ⟨⟩)) ⊢ wp frame (wpE (defs₀ (F := F)) 𝒱₀ c none) Set.univ (startP (F := F) c p) Kt := by
  unfold invS startP
  rw [sum_finFrom_succ p.isLt, bigSep_finFrom_succ p.isLt, bigSep_finUpTo_succ p.isLt, ← add_assoc]
  iintro ⟨⟨#HR, HO, ⟨⟨Hf, Ht⟩, Hrest⟩, Hdone⟩, Hk⟩
  iapply (send_step X κ c false p _ Kt _ W) $$ [Hf HO]
  · isplitr; · iexact HR
    isplitl [Hf]; · iexact Hf
    iexact HO
  iintro ⟨Hcf, HO⟩
  iapply (send_step X κ c true p _ Kt _ W) $$ [Ht HO]
  · isplitr; · iexact HR
    isplitl [Ht]; · iexact Ht
    iexact HO
  iintro ⟨Hct, HO⟩
  rw [wp_ret]
  imodintro
  iapply Hk
  isplitr; · iexact HR
  isplitl [HO]; · iexact HO
  isplitl [Hrest]; · iexact Hrest
  isplitr [Hdone]
  · isplitl [Hcf] <;> iassumption
  iexact Hdone

/-! ## The receipts and the copies out -/

/-- What waiting for a receipt takes, and what both receipts of a piece give. -/
abbrev dueR (v : Bool) (p : Fin 5) : sProp 𝕄 := iprop(cred (tallyAt (dcell c (rx v p)) () (NP v p)) ∗ atPos ER (dcell c (rx v p)) 0 ∅ 0)
abbrev dueRs (p : Fin 5) : sProp 𝕄 := iprop(dueR (F := F) c false p ∗ dueR c true p)
abbrev gotRs (p : Fin 5) : sProp 𝕄 :=
  iprop((pts c kpM (rP p).set fullShare (X.K (pr c)) ∗ pts c vpM (rP p).set fullShare (X.V (pr c)))
    ∗ semVal (dcell c (rx false p)) 0 ∗ semVal (dcell c (rx true p)) 0)

theorem recv_step (v : Bool) (p : Fin 5) (k : PUnit → 𝔓) (Kt : PUnit → sProp 𝕄) :
    iprop(records X κ ∗ dueR c v p ∗ (∃ W, owes (c : Thread nD τ) (0 : CellTallies nD τ sig Unit) W))
      ⊢ iprop(((gotP X c v p ∗ semVal (dcell c (rx v p)) 0 ∗ (∃ W, owes (c : Thread nD τ) (0 : CellTallies nD τ sig Unit) W)) -∗ wp frame (wpE (defs₀ (F := F)) 𝒱₀ c none) Set.univ (k ⟨⟩) Kt) -∗ wp frame (wpE (defs₀ (F := F)) 𝒱₀ c none) Set.univ (.op (waitR v p) k) Kt) := by
  iintro ⟨HR, ⟨Hc, Hat⟩, HO⟩
  iapply (wait_step X κ c (rx v p) (NP v p) (xsrc v p) (xdst v p) (wsrc v p) (wdst v p) (gotP X c v p)
    (payload_recv X c v p) (amount_recv X c v p) rfl k Kt)
  isplitl [HR]; · iexact HR
  isplitl [Hc]; · iexact Hc
  isplitl [Hat]; · iexact Hat
  iexact HO

theorem recvs_step (p : Fin 5) (k : PUnit → 𝔓) (Kt : PUnit → sProp 𝕄) :
    iprop(records X κ ∗ dueRs c p ∗ (∃ W, owes (c : Thread nD τ) (0 : CellTallies nD τ sig Unit) W))
      ⊢ iprop(((gotRs X c p ∗ (∃ W, owes (c : Thread nD τ) (0 : CellTallies nD τ sig Unit) W)) -∗ wp frame (wpE (defs₀ (F := F)) 𝒱₀ c none) Set.univ (k ⟨⟩) Kt) -∗ wp frame (wpE (defs₀ (F := F)) 𝒱₀ c none) Set.univ (.op (waitR false p) fun _ => .op (waitR true p) k) Kt) := by
  iintro ⟨#HR, ⟨Hf, Ht⟩, HO⟩ Hk
  iapply (recv_step X κ c false p _ Kt) $$ [Hf HO]
  · isplitr; · iexact HR
    isplitl [Hf]; · iexact Hf
    iexact HO
  iintro ⟨Hkp, Hs, HO⟩
  iapply (recv_step X κ c true p _ Kt) $$ [Ht HO]
  · isplitr; · iexact HR
    isplitl [Ht]; · iexact Ht
    iexact HO
  iintro ⟨Hvp, Hs', HO⟩
  unfold gotP
  iapply Hk
  isplitr [HO]
  · isplitl [Hkp Hvp]; · isplitl [Hkp] <;> iassumption
    isplitl [Hs] <;> iassumption
  iexact HO

/-- What copying out a row takes beside the row, and leaves. -/
abbrev toOut (o0 : Wide F .bf16) (b : Fin 4) : sProp 𝕄 :=
  iprop(pts c oM (rB b).set fullShare o0 ∗ dutyTok ER (dcell c (ox b)) 0 () ∗ reached ER (dcell c (ox b)) 0)
abbrev outing (b : Fin 4) : sProp 𝕄 := cred (tallyAt (dcell c (ox b)) () (NO b))

theorem out_step (o0 : Wide F .bf16) (b : Fin 4) (k : PUnit → 𝔓) (Kt : PUnit → sProp 𝕄) :
    iprop(records X κ ∗ pts c gM (rB b).set fullShare (X.out c) ∗ toOut c o0 b)
      ⊢ iprop((outing c b -∗ wp frame (wpE (defs₀ (F := F)) 𝒱₀ c none) Set.univ (k ⟨⟩) Kt) -∗ wp frame (wpE (defs₀ (F := F)) 𝒱₀ c none) Set.univ (.op (copyOut b) k) Kt) := by
  iintro ⟨#HR, Hg, ⟨Ho, Ht, Hr⟩⟩ Hk
  ihave #HI := (inv_dma X κ c (ox b)) $$ HR
  iapply (Rounds.wp_copy_pointsTo 𝒱₀ ER (talkRd X) (c : Thread nD τ) none (src := row gM b) (dst := row oM b) (sem := .dma (outS b)) (q := fullShare)
      (fs := X.out c) (fd := o0) (r := 0) (d := ()) (κ := κ (dcell c (ox b)))
      (mem_dma X c (ox b)) () (NO b) rfl (amount_out X c b)
      (by
        rw [payload_out]; unfold outPay
        rw [set_ro, set_rg]
        exact Entails.of_eq (congrArg (fun H : sProp 𝕄 => iprop(H ∗ _)) (pointsTo_congr (land_o b o0 (X.out c)))))) $$ [Hg Ho Ht Hr]
  · isplitr; · iexact HI
    isplitl [Hg]; · rw [set_rg]; iexact Hg
    isplitl [Ho]; · rw [set_ro]; iexact Ho
    isplitl [Ht]; · iexact Ht
    iexact Hr
  iexact Hk

/-! ## The four phases after the sends -/

abbrev qHeld : sProp 𝕄 := pts c qM Finset.univ fullShare (X.Q c)
abbrev totals (l : S4x256x16.Idx → Elt F .f32) (a : Wide F .f32) : sProp 𝕄 :=
  iprop(pts c lM Finset.univ fullShare l ∗ pts c aM Finset.univ fullShare a)

variable (g0 o0 : Wide F .bf16)

/-- What batch row `b` takes and leaves. -/
abbrev rowIn (p : Fin 5) (b : Fin 4) : sProp 𝕄 := iprop(dueRs c p ∗ pts c gM (rB b).set fullShare g0 ∗ toOut c o0 b)
abbrev rowDone (p : Fin 5) (b : Fin 4) : sProp 𝕄 := iprop(gotRs X c p ∗ outing c b)

def invP (j : ℕ) : sProp 𝕄 :=
  iprop(records X κ ∗ qHeld X c ∗ totals c (L0 (X.Q c) (X.K c)) (A0 (X.Q c) (X.K c) (X.V c)) ∗ (∃ W, owes (c : Thread nD τ) (0 : CellTallies nD τ sig Unit) W)
    ∗ (bigSep (finFrom 3 j) fun b => rowIn c g0 o0 (pcB b) (rowB b))
    ∗ bigSep (finUpTo 3 j) fun b => rowDone X c (pcB b) (rowB b))

theorem phaseB_run (b : Fin 3) (Kt : PUnit → sProp 𝕄) :
    iprop(invP X κ c g0 o0 b ∗ (invP X κ c g0 o0 (b + 1) -∗ Kt ⟨⟩)) ⊢ wp frame (wpE (defs₀ (F := F)) 𝒱₀ c none) Set.univ (phaseB (F := F) b) Kt := by
  unfold invP phaseB
  rw [bigSep_finFrom_succ b.isLt, bigSep_finUpTo_succ b.isLt]
  iintro ⟨⟨#HR, Hq, ⟨Hl, Ha⟩, HO, ⟨⟨Hdue, Hg, Hto⟩, Hrest⟩, Hdone⟩, Hk⟩
  iapply (recvs_step X κ c (pcB b) _ Kt) $$ [Hdue HO]
  · isplitr; · iexact HR
    isplitl [Hdue]; · iexact Hdue
    iexact HO
  iintro ⟨⟨⟨Hkp, Hvp⟩, Hsems⟩, HO⟩
  rw [wp_bind]
  iapply (loopB c (X.Q c) (X.K c) (X.V c) (X.K (pr c)) (X.V (pr c)) b g0 _)
  isplitl [Hq Hl Ha Hg Hkp Hvp]
  · isplitl [Hq]; · iexact Hq
    isplitl [Hkp]; · iexact Hkp
    isplitl [Hvp]; · iexact Hvp
    isplitl [Hl]; · iexact Hl
    isplitl [Ha]; · iexact Ha
    iexact Hg
  iintro ⟨Hq, Hkp, Hvp, Hl, Ha, Hg⟩
  iapply (out_step X κ c o0 (rowB b) _ Kt) $$ [Hg Hto]
  · isplitr; · iexact HR
    isplitl [Hg]; · iexact Hg
    iexact Hto
  iintro Hc
  rw [wp_ret]
  imodintro
  iapply Hk
  isplitr; · iexact HR
  isplitl [Hq]; · iexact Hq
  isplitl [Hl Ha]; · isplitl [Hl] <;> iassumption
  isplitl [HO]; · iexact HO
  isplitl [Hrest]; · iexact Hrest
  isplitr [Hdone]
  · isplitr [Hc]
    · isplitr [Hsems]; · isplitl [Hkp] <;> iassumption
      iexact Hsems
    · iexact Hc
  iexact Hdone

theorem phaseC_run (Kt : PUnit → sProp 𝕄) :
    iprop((records X κ ∗ qHeld X c ∗ totals c (L0 (X.Q c) (X.K c)) (A0 (X.Q c) (X.K c) (X.V c)) ∗ (∃ W, owes (c : Thread nD τ) (0 : CellTallies nD τ sig Unit) W) ∗ dueRs c 3)
      ∗ ((qHeld X c ∗ totals c (L1 (X.Q c) (X.K c) (X.K (pr c))) (A1 (X.Q c) (X.K c) (X.V c) (X.K (pr c)) (X.V (pr c))) ∗ (∃ W, owes (c : Thread nD τ) (0 : CellTallies nD τ sig Unit) W) ∗ gotRs X c 3) -∗ Kt ⟨⟩))
      ⊢ wp frame (wpE (defs₀ (F := F)) 𝒱₀ c none) Set.univ (phaseC (F := F)) Kt := by
  unfold phaseC
  iintro ⟨⟨#HR, Hq, ⟨Hl, Ha⟩, HO, Hdue⟩, Hk⟩
  iapply (recvs_step X κ c 3 _ Kt) $$ [Hdue HO]
  · isplitr; · iexact HR
    isplitl [Hdue]; · iexact Hdue
    iexact HO
  iintro ⟨⟨⟨Hkp, Hvp⟩, Hsems⟩, HO⟩
  iapply (loopC c (X.Q c) (X.K c) (X.V c) (X.K (pr c)) (X.V (pr c)) Kt)
  isplitl [Hq Hl Ha Hkp Hvp]
  · isplitl [Hq]; · iexact Hq
    isplitl [Hkp]; · iexact Hkp
    isplitl [Hvp]; · iexact Hvp
    isplitl [Hl]; · iexact Hl
    iexact Ha
  iintro ⟨Hq, Hkp, Hvp, Hl, Ha⟩
  iapply Hk
  isplitl [Hq]; · iexact Hq
  isplitl [Hl Ha]; · isplitl [Hl] <;> iassumption
  isplitl [HO]; · iexact HO
  isplitr [Hsems]; · (isplitl [Hkp]; · iexact Hkp); iexact Hvp
  iexact Hsems

theorem phaseD_run (Kt : PUnit → sProp 𝕄) :
    iprop((records X κ ∗ qHeld X c ∗ totals c (L1 (X.Q c) (X.K c) (X.K (pr c))) (A1 (X.Q c) (X.K c) (X.V c) (X.K (pr c)) (X.V (pr c)))
        ∗ (∃ W, owes (c : Thread nD τ) (0 : CellTallies nD τ sig Unit) W) ∗ rowIn c g0 o0 4 3)
      ∗ ((qHeld X c ∗ totals c (L1 (X.Q c) (X.K c) (X.K (pr c))) (A1 (X.Q c) (X.K c) (X.V c) (X.K (pr c)) (X.V (pr c)))
        ∗ (∃ W, owes (c : Thread nD τ) (0 : CellTallies nD τ sig Unit) W) ∗ rowDone X c 4 3) -∗ Kt ⟨⟩))
      ⊢ wp frame (wpE (defs₀ (F := F)) 𝒱₀ c none) Set.univ (phaseD (F := F)) Kt := by
  unfold phaseD
  iintro ⟨⟨#HR, Hq, ⟨Hl, Ha⟩, HO, ⟨Hdue, Hg, Hto⟩⟩, Hk⟩
  iapply (recvs_step X κ c 4 _ Kt) $$ [Hdue HO]
  · isplitr; · iexact HR
    isplitl [Hdue]; · iexact Hdue
    iexact HO
  iintro ⟨⟨⟨Hkp, Hvp⟩, Hsems⟩, HO⟩
  rw [wp_bind]
  iapply (loopD c (X.Q c) (X.K c) (X.V c) (X.K (pr c)) (X.V (pr c)) g0 _)
  isplitl [Hq Hl Ha Hg Hkp Hvp]
  · isplitl [Hq]; · iexact Hq
    isplitl [Hkp]; · iexact Hkp
    isplitl [Hvp]; · iexact Hvp
    isplitl [Hl]; · iexact Hl
    isplitl [Ha]; · iexact Ha
    iexact Hg
  iintro ⟨Hq, Hkp, Hvp, Hl, Ha, Hg⟩
  iapply (out_step X κ c o0 3 _ Kt) $$ [Hg Hto]
  · isplitr; · iexact HR
    isplitl [Hg]; · iexact Hg
    iexact Hto
  iintro Hc
  rw [wp_ret]
  imodintro
  iapply Hk
  isplitl [Hq]; · iexact Hq
  isplitl [Hl Ha]; · isplitl [Hl] <;> iassumption
  isplitl [HO]; · iexact HO
  isplitr [Hc]
  · isplitr [Hsems]; · (isplitl [Hkp]; · iexact Hkp); iexact Hvp
    iexact Hsems
  iexact Hc

/-! ## The last waits -/

abbrev outAll (b : Fin 4) : sProp 𝕄 := iprop(outPay X c b ∗ semVal (dcell c (ox b)) 0)
def invO (j : ℕ) : sProp 𝕄 :=
  iprop(records X κ ∗ (∃ W, owes (c : Thread nD τ) (0 : CellTallies nD τ sig Unit) W) ∗ (bigSep (finFrom 4 j) fun b => iprop(outing c b ∗ atPos ER (dcell c (ox b)) 0 ∅ 0))
    ∗ bigSep (finUpTo 4 j) fun b => outAll X c b)

theorem waitOP_run (b : Fin 4) (Kt : PUnit → sProp 𝕄) :
    iprop(invO X κ c b ∗ (invO X κ c (b + 1) -∗ Kt ⟨⟩)) ⊢ wp frame (wpE (defs₀ (F := F)) 𝒱₀ c none) Set.univ (waitOP (F := F) b) Kt := by
  unfold invO waitOP
  rw [bigSep_finFrom_succ b.isLt, bigSep_finUpTo_succ b.isLt]
  iintro ⟨⟨#HR, HO, ⟨⟨Hc, Hat⟩, Hrest⟩, Hdone⟩, Hk⟩
  iapply (wait_step X κ c (ox b) (NO b) (row gM b) (row oM b) (wg b) (wo b) (outPay X c b)
    (payload_out X c b) (amount_out X c b) rfl _ Kt) $$ [Hc Hat HO]
  · isplitr; · iexact HR
    isplitl [Hc]; · iexact Hc
    isplitl [Hat]; · iexact Hat
    iexact HO
  iintro ⟨Hp, Hs, HO⟩
  rw [wp_ret]
  imodintro
  iapply Hk
  isplitr; · iexact HR
  isplitl [HO]; · iexact HO
  isplitl [Hrest]; · iexact Hrest
  isplitr [Hdone]
  · isplitl [Hp] <;> iassumption
  iexact Hdone

abbrev dueS (v : Bool) (p : Fin 5) : sProp 𝕄 := iprop(sent c v p ∗ atPos ER (dcell c (sx v p)) 0 ∅ 0)
abbrev backS (v : Bool) (p : Fin 5) : sProp 𝕄 := iprop(srcP X c v p ∗ semVal (dcell c (sx v p)) 0)
def invW (j : ℕ) : sProp 𝕄 :=
  iprop(records X κ ∗ (∃ W, owes (c : Thread nD τ) (0 : CellTallies nD τ sig Unit) W) ∗ (bigSep (finFrom 5 j) fun p => iprop(dueS (F := F) c false p ∗ dueS c true p))
    ∗ bigSep (finUpTo 5 j) fun p => iprop(backS X c false p ∗ backS X c true p))

theorem sent_step (v : Bool) (p : Fin 5) (k : PUnit → 𝔓) (Kt : PUnit → sProp 𝕄) :
    iprop(records X κ ∗ dueS c v p ∗ (∃ W, owes (c : Thread nD τ) (0 : CellTallies nD τ sig Unit) W))
      ⊢ iprop(((srcP X c v p ∗ semVal (dcell c (sx v p)) 0 ∗ (∃ W, owes (c : Thread nD τ) (0 : CellTallies nD τ sig Unit) W)) -∗ wp frame (wpE (defs₀ (F := F)) 𝒱₀ c none) Set.univ (k ⟨⟩) Kt) -∗ wp frame (wpE (defs₀ (F := F)) 𝒱₀ c none) Set.univ (.op (waitS v p) k) Kt) := by
  iintro ⟨HR, ⟨Hc, Hat⟩, HO⟩
  iapply (wait_step X κ c (sx v p) (NP v p) (xdst v p) (xsrc v p) (wdst v p) (wsrc v p) (srcP X c v p)
    (payload_send X c v p) (amount_send X c v p) (NP_src v p) k Kt)
  isplitl [HR]; · iexact HR
  isplitl [Hc]; · iexact Hc
  isplitl [Hat]; · iexact Hat
  iexact HO

theorem waitP_run (p : Fin 5) (Kt : PUnit → sProp 𝕄) :
    iprop(invW X κ c p ∗ (invW X κ c (p + 1) -∗ Kt ⟨⟩)) ⊢ wp frame (wpE (defs₀ (F := F)) 𝒱₀ c none) Set.univ (waitP (F := F) p) Kt := by
  unfold invW waitP
  rw [bigSep_finFrom_succ p.isLt, bigSep_finUpTo_succ p.isLt]
  iintro ⟨⟨#HR, HO, ⟨⟨Hf, Ht⟩, Hrest⟩, Hdone⟩, Hk⟩
  iapply (sent_step X κ c false p _ Kt) $$ [Hf HO]
  · isplitr; · iexact HR
    isplitl [Hf]; · iexact Hf
    iexact HO
  iintro ⟨Hk', Hs, HO⟩
  iapply (sent_step X κ c true p _ Kt) $$ [Ht HO]
  · isplitr; · iexact HR
    isplitl [Ht]; · iexact Ht
    iexact HO
  iintro ⟨Hv', Hs', HO⟩
  rw [wp_ret]
  imodintro
  iapply Hk
  isplitr; · iexact HR
  isplitl [HO]; · iexact HO
  isplitl [Hrest]; · iexact Hrest
  isplitr [Hdone]
  · isplitl [Hk' Hs]
    · isplitl [Hk'] <;> iassumption
    · isplitl [Hv'] <;> iassumption
  iexact Hdone

/-! ## Splitting and joining the buffers -/

theorem piece_of (i : S4x256x1024.Idx) : ∃ p : Fin 5, i ∈ (rP p).set := by
  have h := Finset.mem_univ i
  rw [← pieces_cover, Finset.mem_biUnion] at h
  obtain ⟨p, -, hp⟩ := h
  exact ⟨p, hp⟩
theorem row_of (i : S4x256x1024.Idx) : ∃ b : Fin 4, i ∈ (rB b).set := ⟨⟨(i 0 : ℕ), (i 0).isLt⟩, (mem_row _ i).mpr rfl⟩

/-- A whole buffer is its parts. -/
theorem split_of {ℓ : Loc nD τ sig} {n : ℕ} (S : Fin n → Finset (Idx ℓ)) (hc : ∀ i, ∃ p, i ∈ S p)
    (hd : ∀ p ∈ (Finset.univ : Finset (Fin n)), ∀ p' ∈ (Finset.univ : Finset (Fin n)), p ≠ p' → Disjoint (S p) (S p'))
    (q : PosShare TreeShare) (f : Buf (Elt F) ℓ) : (ℓ ↦[Finset.univ]{q} f : sProp 𝕄) = bigSep Finset.univ fun p => ℓ ↦[S p]{q} f := by
  rw [← pointsTo_biUnion Finset.univ S hd]
  congr 1
  refine (Finset.eq_univ_iff_forall.mpr fun i => ?_).symm
  obtain ⟨p, hp⟩ := hc i
  exact Finset.mem_biUnion.mpr ⟨p, Finset.mem_univ _, hp⟩

theorem split_kp (f : Wide F .bf16) (q : PosShare TreeShare) :
    (pts c kpM Finset.univ q f : sProp 𝕄) = bigSep Finset.univ fun p => pts c kpM (rP p).set q f :=
  split_of (ℓ := kpM.view.loc (c : Thread nD τ)) (fun p => (rP p).set) piece_of pieces_disjoint q f
theorem split_vp (f : Wide F .bf16) (q : PosShare TreeShare) :
    (pts c vpM Finset.univ q f : sProp 𝕄) = bigSep Finset.univ fun p => pts c vpM (rP p).set q f :=
  split_of (ℓ := vpM.view.loc (c : Thread nD τ)) (fun p => (rP p).set) piece_of pieces_disjoint q f
theorem split_k (f : Wide F .bf16) (q : PosShare TreeShare) :
    (pts c kM Finset.univ q f : sProp 𝕄) = bigSep Finset.univ fun p => pts c kM (rP p).set q f :=
  split_of (ℓ := kM.view.loc (c : Thread nD τ)) (fun p => (rP p).set) piece_of pieces_disjoint q f
theorem split_v (f : Wide F .bf16) (q : PosShare TreeShare) :
    (pts c vM Finset.univ q f : sProp 𝕄) = bigSep Finset.univ fun p => pts c vM (rP p).set q f :=
  split_of (ℓ := vM.view.loc (c : Thread nD τ)) (fun p => (rP p).set) piece_of pieces_disjoint q f
theorem split_g (f : Wide F .bf16) :
    (pts c gM Finset.univ fullShare f : sProp 𝕄) = bigSep Finset.univ fun b => pts c gM (rB b).set fullShare f :=
  split_of (ℓ := gM.view.loc (c : Thread nD τ)) (fun b => (rB b).set) row_of rows_disjoint fullShare f
theorem split_o (f : Wide F .bf16) :
    (pts c oM Finset.univ fullShare f : sProp 𝕄) = bigSep Finset.univ fun b => pts c oM (rB b).set fullShare f :=
  split_of (ℓ := oM.view.loc (c : Thread nD τ)) (fun b => (rB b).set) row_of rows_disjoint fullShare f

theorem share_k (f : Wide F .bf16) : (pts c kM Finset.univ fullShare f : sProp 𝕄) ⊣⊢ iprop(pts c kM Finset.univ lf f ∗ pts c kM Finset.univ hf f) :=
  pointsTo_share (PosShare.mem_left_op_right fullShare)
theorem share_v (f : Wide F .bf16) : (pts c vM Finset.univ fullShare f : sProp 𝕄) ⊣⊢ iprop(pts c vM Finset.univ lf f ∗ pts c vM Finset.univ hf f) :=
  pointsTo_share (PosShare.mem_left_op_right fullShare)

theorem prs_eq (Φ : Bool → Fin 5 → sProp 𝕄) : prs Φ = iprop(bigSep Finset.univ (Φ false) ∗ bigSep Finset.univ (Φ true)) := by
  unfold prs; exact bigSep_sep' ..
theorem prs_pair (Φ Ψ : Bool → Fin 5 → sProp 𝕄) : iprop(prs Φ ∗ prs Ψ) ⊢ prs fun v p => iprop(Φ v p ∗ Ψ v p) := by
  rw [prs_eq, prs_eq, prs_eq, bigSep_sep', bigSep_sep']
  iintro ⟨⟨H1, H2⟩, H3, H4⟩
  isplitl [H1 H3]
  · isplitl [H1] <;> iassumption
  · isplitl [H2] <;> iassumption
theorem prs_unpair (Φ Ψ : Bool → Fin 5 → sProp 𝕄) : (prs fun v p => iprop(Φ v p ∗ Ψ v p)) ⊢ iprop(prs Φ ∗ prs Ψ) := by
  rw [prs_eq, prs_eq, prs_eq, bigSep_sep', bigSep_sep']
  iintro ⟨⟨H1, H2⟩, H3, H4⟩
  isplitl [H1 H3]
  · isplitl [H1] <;> iassumption
  · isplitl [H2] <;> iassumption
theorem prs_mono (Φ Ψ : Bool → Fin 5 → sProp 𝕄) (h : ∀ v p, Φ v p ⊢ Ψ v p) : prs Φ ⊢ prs Ψ :=
  bigSep_mono fun p _ => BI.sep_mono (h false p) (h true p)

theorem dst_split (f f' : Wide F .bf16) :
    iprop(pts c kpM Finset.univ fullShare f ∗ pts c vpM Finset.univ fullShare f') ⊢ prs (F := F) (dstP c) := by
  rw [split_kp, split_vp, prs_eq]
  refine BI.sep_mono (bigSep_mono fun p _ => ?_) (bigSep_mono fun p _ => ?_)
  · show (pts c kpM (rP p).set fullShare f : sProp 𝕄) ⊢ iprop(∃ f : Wide F .bf16, pts c kpM (rP p).set fullShare f)
    iintro H; iexists f; iexact H
  · show (pts c vpM (rP p).set fullShare f' : sProp 𝕄) ⊢ iprop(∃ f : Wide F .bf16, pts c vpM (rP p).set fullShare f)
    iintro H; iexists f'; iexact H
theorem src_split : iprop(pts c kM Finset.univ lf (X.K c) ∗ pts c vM Finset.univ lf (X.V c)) = prs (F := F) (srcP X c) := by
  rw [split_k, split_v, prs_eq]; rfl

theorem assoc (P Q R : sProp 𝕄) : iprop((P ∗ Q) ∗ R) = iprop(P ∗ Q ∗ R) := BI.equiv_iff.mp ⟨BI.sep_assoc, BI.sep_assoc'⟩
theorem deal5 (Φ : Fin 5 → sProp 𝕄) : bigSep Finset.univ Φ = iprop((bigSep Finset.univ fun b : Fin 3 => Φ (pcB b)) ∗ Φ 3 ∗ Φ 4) := by
  rw [bigSep_univ_eq_bigSepL [0, 1, 2, 3, 4] (by decide) (by decide) Φ, bigSep_univ_eq_bigSepL [0, 1, 2] (by decide) (by decide)]
  show iprop(Φ 0 ∗ Φ 1 ∗ Φ 2 ∗ Φ 3 ∗ Φ 4) = iprop((Φ 0 ∗ Φ 1 ∗ Φ 2) ∗ Φ 3 ∗ Φ 4)
  rw [assoc, assoc]
theorem deal4 (Φ : Fin 4 → sProp 𝕄) : bigSep Finset.univ Φ = iprop((bigSep Finset.univ fun b : Fin 3 => Φ (rowB b)) ∗ Φ 3) := by
  rw [bigSep_univ_eq_bigSepL [0, 1, 2, 3] (by decide) (by decide) Φ, bigSep_univ_eq_bigSepL [0, 1, 2] (by decide) (by decide)]
  show iprop(Φ 0 ∗ Φ 1 ∗ Φ 2 ∗ Φ 3) = iprop((Φ 0 ∗ Φ 1 ∗ Φ 2) ∗ Φ 3)
  rw [assoc, assoc]

/-! ## The whole body -/

/-- What the protocol gives a device, its cells open. -/
def opened : sProp 𝕄 :=
  iprop(records X κ ∗ atPos ER (barCell c) 0 ∅ 0 ∗ dutyTok ER (barCell (pr c)) 0 ()
    ∗ (prs fun v p => atPos ER (dcell c (sx v p)) 0 ∅ 0) ∗ (prs fun v p => atPos ER (dcell c (rx v p)) 0 ∅ 0)
    ∗ (bigSep Finset.univ fun b => atPos ER (dcell c (ox b)) 0 ∅ 0)
    ∗ (prs fun v p => iprop(dutyTok ER (dcell c (sx v p)) 0 () ∗ reached ER (dcell c (sx v p)) 0))
    ∗ (prs fun v p => dutyTok ER (dcell (pr c) (rx v p)) 0 ()) ∗ (prs fun v p => reached ER (dcell c (rx v p)) 0)
    ∗ bigSep Finset.univ fun b => iprop(dutyTok ER (dcell c (ox b)) 0 () ∗ reached ER (dcell c (ox b)) 0))

/-- The credit it waits with. -/
def credits : sProp 𝕄 :=
  iprop(cred (tallyAt (barCell c) () 1) ∗ prs fun v p => cred (tallyAt (dcell c (rx v p)) () (NP v p)))

/-- The kernel's scratch buffers, at whatever they hold. -/
def scratch : sProp 𝕄 :=
  iprop((∃ f : Wide F .bf16, pts c kpM Finset.univ fullShare f) ∗ (∃ f : Wide F .bf16, pts c vpM Finset.univ fullShare f)
    ∗ (∃ f : S4x256x16.Idx → Elt F .f32, pts c lM Finset.univ fullShare f) ∗ (∃ f : Wide F .f32, pts c aM Finset.univ fullShare f)
    ∗ ∃ f : Wide F .bf16, pts c gM Finset.univ fullShare f)
/-- The three staged arrays. -/
def staged : sProp 𝕄 :=
  iprop(pts c qM Finset.univ fullShare (X.Q c) ∗ pts c kM Finset.univ fullShare (X.K c) ∗ pts c vM Finset.univ fullShare (X.V c))

/-- Every semaphore of the kernel's own, at zero. -/
def zeros : sProp 𝕄 :=
  iprop((prs fun v p => semVal (dcell c (sx v p)) 0) ∗ (prs fun v p => semVal (dcell c (rx v p)) 0)
    ∗ bigSep Finset.univ fun b => semVal (dcell c (ox b)) 0)

def bodyPre (W : Waits sig Unit) : sProp 𝕄 :=
  iprop(opened X κ c ∗ credits (F := F) c ∗ levAts L lv ∗ staged X c ∗ scratch (F := F) c ∗ pts c oM Finset.univ fullShare o0
    ∗ owes (c : Thread nD τ) (O₀ c) W)
def bodyPost : sProp 𝕄 :=
  iprop(semVal (barCell c) 0 ∗ zeros (F := F) c ∗ staged X c ∗ scratch (F := F) c ∗ pts c oM Finset.univ fullShare (X.out c) ∗ (∃ W, owes (c : Thread nD τ) (0 : CellTallies nD τ sig Unit) W))

theorem toSend_intro :
    iprop((prs (F := F) (srcP X c) ∗ prs (F := F) (dstP (pr c)))
        ∗ (prs fun v p => iprop(dutyTok ER (dcell c (sx v p)) 0 () ∗ reached ER (dcell c (sx v p)) 0))
        ∗ (prs fun v p => dutyTok ER (dcell (pr c) (rx v p)) 0 ()) ∗ (prs fun v p => reached ER (dcell (pr c) (rx v p)) 0))
      ⊢ prs (F := F) (toSend X c) := by
  iintro ⟨⟨Hs, Hd⟩, Ht, Ht', Hr⟩
  ihave H1 := (prs_pair _ _) $$ [Ht' Hr]
  · isplitl [Ht'] <;> iassumption
  ihave H2 := (prs_pair _ _) $$ [Ht H1]
  · isplitl [Ht] <;> iassumption
  ihave H3 := (prs_pair _ _) $$ [Hd H2]
  · isplitl [Hd] <;> iassumption
  ihave H4 := (prs_pair _ _) $$ [Hs H3]
  · isplitl [Hs] <;> iassumption
  iapply (prs_mono _ (toSend X c) (fun v p => ?_)) $$ H4
  unfold toSend
  iintro ⟨Hs, Hd, ⟨Ht, Hr⟩, Ht', Hr'⟩
  isplitl [Hs]; · iexact Hs
  isplitl [Hd]; · iexact Hd
  isplitl [Ht]; · iexact Ht
  isplitl [Hr]; · iexact Hr
  isplitl [Ht'] <;> iassumption

theorem rows_intro (Φ : Fin 5 → sProp 𝕄) (Ψ Ω : Fin 4 → sProp 𝕄) :
    iprop(bigSep Finset.univ Φ ∗ bigSep Finset.univ Ψ ∗ bigSep Finset.univ Ω)
      ⊢ iprop((bigSep Finset.univ fun b : Fin 3 => iprop(Φ (pcB b) ∗ Ψ (rowB b) ∗ Ω (rowB b))) ∗ Φ 3 ∗ (Φ 4 ∗ Ψ 3 ∗ Ω 3)) := by
  rw [deal5 Φ, deal4 Ψ, deal4 Ω, bigSep_sep', bigSep_sep']
  iintro ⟨⟨H, H3, H4⟩, ⟨H', H3'⟩, H'', H3''⟩
  isplitl [H H' H'']
  · isplitl [H]; · iexact H
    isplitl [H'] <;> iassumption
  isplitl [H3]; · iexact H3
  isplitl [H4]; · iexact H4
  isplitl [H3'] <;> iassumption

theorem rows_elim (Φ : Fin 5 → sProp 𝕄) (Ψ : Fin 4 → sProp 𝕄) :
    iprop((bigSep Finset.univ fun b : Fin 3 => iprop(Φ (pcB b) ∗ Ψ (rowB b))) ∗ Φ 3 ∗ (Φ 4 ∗ Ψ 3))
      ⊢ iprop(bigSep Finset.univ Φ ∗ bigSep Finset.univ Ψ) := by
  rw [deal5 Φ, deal4 Ψ, bigSep_sep']
  iintro ⟨⟨H, H'⟩, H3, H4, H3'⟩
  isplitl [H H3 H4]
  · isplitl [H]; · iexact H
    isplitl [H3] <;> iassumption
  isplitl [H'] <;> iassumption

set_option maxHeartbeats 1600000 in
theorem body_run (W : Waits sig Unit) (Kt : PUnit → sProp 𝕄) :
    iprop(bodyPre X κ c o0 W ∗ (bodyPost X c -∗ Kt ⟨⟩)) ⊢ wp frame (wpE (defs₀ (F := F)) 𝒱₀ c none) Set.univ (body (F := F)) Kt := by
  unfold body bodyPre opened credits staged scratch
  rw [wp_deviceId]
  iintro ⟨⟨⟨#HR, HatB, HtB, HatS, HatR, HatO, HtS, HtR, HrR, HtO⟩, ⟨HcB, HcR⟩, #Hlev, ⟨Hq, HK, HV⟩,
    ⟨⟨%fk, Hkp⟩, ⟨%fv, Hvp⟩, ⟨%fl, Hl⟩, ⟨%fa, Ha⟩, ⟨%fg, Hg⟩⟩, Ho, HO⟩, Hk⟩
  ihave #HIb := (inv_bar X κ c) $$ HR
  ihave #HIb' := (inv_bar X κ (pr c)) $$ HR
  ihave #HrB := (reached_bar X κ (pr c)) $$ HR
  -- the signal hands the other end the landing buffers
  iapply (Rounds.wp_signal 𝒱₀ ER (talkRd X) (c : Thread nD τ) none (dst := (pr c : Thread nD τ)) (sem := barrier0) (r := 0) (d := ()) (κ := κ (barCell (pr c)))
      (mem_bar X (pr c)) rfl () (debts c) rfl) $$ [HO HtB Hkp Hvp HrR]
  · isplitr; · iexact HIb'
    isplitl [HO]; · iexact HO
    isplitl [HtB]; · iexact HtB
    isplitl [Hkp Hvp HrR]
    · rw [show (talkRd X).payload (barCell (pr c)) 0 () = barPay (F := F) (pr c) from rfl]
      unfold barPay; rw [pr_pr]
      isplitr [HrR]
      · iapply (dst_split c fk fv)
        isplitl [Hkp] <;> iassumption
      · iexact HrR
    · iexact HrB
  iintro HO
  iapply (Rounds.wp_wait_rest_token 𝒱₀ ER (talkRd X) (c : Thread nD τ) none (κ := κ (barCell c))
      (wpE_semWait_eq 𝒱₀ (c : Thread nD τ) none Set.univ) (Set.mem_univ _) () (O := debts c) (W := W) (R := 0) (m := 0) (T := ∅)
      ((Nat.zero_add 1).trans (expect_bar X c).symm)) $$ [HcB HO HatB]
  · isplitr; · iexact HIb
    isplitl [HcB]; · iexact HcB
    isplitl [HO]; · iexact HO
    isplitr; · iapply (mayWait_bar c); iexact Hlev
    iexact HatB
  iintro ⟨HO, HatB, -, Hpay⟩
  ihave Hp := (Entails.of_eq (rest_bar X c)) $$ Hpay
  unfold barPay
  icases Hp with ⟨Hdst, HrR'⟩
  imod (closed X κ (barCell c)) $$ [HatB] with HzB
  · isplitr; · iexact HIb
    iexact HatB
  -- own keys and values: one half share to the transfers, in pieces, the other to the loads
  ihave HK' := (share_k c (X.K c)).1 $$ HK
  icases HK' with ⟨HKs, HK⟩
  ihave HV' := (share_v c (X.V c)).1 $$ HV
  icases HV' with ⟨HVs, HV⟩
  ihave Hsrc := (Entails.of_eq (src_split X c)) $$ [HKs HVs]
  · isplitl [HKs] <;> iassumption
  ihave Hsend := (toSend_intro X c) $$ [Hsrc Hdst HtS HtR HrR']
  · isplitl [Hsrc Hdst]; · isplitl [Hsrc] <;> iassumption
    isplitl [HtS]; · iexact HtS
    isplitl [HtR] <;> iassumption
  rw [wp_bind]
  iapply (wp_seqFin c 5 (invS X κ c (insert (SemLoc.reg barrier0, ()) W)) (startP (F := F) c) (startP_run X κ c _) _)
  isplitl [Hsend HO]
  · unfold invS
    rw [sum_finFrom_zero, bigSep_finFrom_zero, bigSep_finUpTo_zero]
    isplitr; · iexact HR
    isplitl [HO]; · iexact HO
    isplitl [Hsend]; · unfold prs; iexact Hsend
    iempintro
  unfold invS
  rw [sum_finFrom_self, bigSep_finFrom_self, bigSep_finUpTo_self]
  iintro ⟨-, HO, -, Hsent⟩
  rw [wp_bind]
  iapply (loopA c (X.Q c) (X.K c) (X.V c) fl fa _)
  isplitl [Hq HK HV Hl Ha]
  · isplitl [Hq]; · iexact Hq
    isplitl [HK]; · iexact HK
    isplitl [HV]; · iexact HV
    isplitl [Hl] <;> iassumption
  iintro ⟨Hq, HK, HV, Hl, Ha⟩
  -- the receipts, the rows of the result and of where it goes, dealt to the batch rows
  ihave HR' := (prs_pair _ _) $$ [HcR HatR]
  · isplitl [HcR] <;> iassumption
  ihave Hg' := (Entails.of_eq (split_g c fg)) $$ Hg
  ihave Ho' := (Entails.of_eq (split_o c o0)) $$ Ho
  ihave Hto := (Entails.of_eq (bigSep_sep' Finset.univ (fun b : Fin 4 => (pts c oM (rB b).set fullShare o0 : sProp 𝕄))
    (fun b => iprop(dutyTok ER (dcell c (ox b)) 0 () ∗ reached ER (dcell c (ox b)) 0))).symm) $$ [Ho' HtO]
  · isplitl [Ho'] <;> iassumption
  ihave Hrows := (rows_intro (fun p => dueRs (F := F) c p) (fun b => pts c gM (rB b).set fullShare fg) (fun b => toOut c o0 b)) $$ [HR' Hg' Hto]
  · isplitl [HR']; · unfold prs; iexact HR'
    isplitl [Hg'] <;> iassumption
  icases Hrows with ⟨HrowB, HrowC, HrowD⟩
  rw [wp_bind]
  iapply (wp_seqFin c 3 (invP X κ c fg o0) (phaseB (F := F)) (phaseB_run X κ c fg o0) _)
  isplitl [Hq Hl Ha HO HrowB]
  · unfold invP
    rw [bigSep_finFrom_zero, bigSep_finUpTo_zero]
    isplitr; · iexact HR
    isplitl [Hq]; · iexact Hq
    isplitl [Hl Ha]; · isplitl [Hl] <;> iassumption
    isplitl [HO]; · iexists _; iexact HO
    isplitl [HrowB]; · iexact HrowB
    iempintro
  unfold invP
  rw [bigSep_finFrom_self, bigSep_finUpTo_self]
  iintro ⟨-, Hq, Hla, HO, -, HdoneB⟩
  rw [wp_bind]
  iapply (phaseC_run X κ c _)
  isplitl [Hq Hla HO HrowC]
  · isplitr; · iexact HR
    isplitl [Hq]; · iexact Hq
    isplitl [Hla]; · iexact Hla
    isplitl [HO] <;> iassumption
  iintro ⟨Hq, Hla, HO, HdoneC⟩
  rw [wp_bind]
  iapply (phaseD_run X κ c fg o0 _)
  isplitl [Hq Hla HO HrowD]
  · isplitr; · iexact HR
    isplitl [Hq]; · iexact Hq
    isplitl [Hla]; · iexact Hla
    isplitl [HO] <;> iassumption
  iintro ⟨Hq, ⟨Hl, Ha⟩, HO, HdoneD⟩
  ihave Hdone := (rows_elim (fun p => gotRs X c p) (fun b => outing c b)) $$ [HdoneB HdoneC HdoneD]
  · isplitl [HdoneB]; · iexact HdoneB
    isplitl [HdoneC] <;> iassumption
  icases Hdone with ⟨Hgot, Houting⟩
  ihave Hgot' := (Entails.of_eq (bigSep_sep' _ _ _)) $$ Hgot
  icases Hgot' with ⟨Hbufs, HzR⟩
  ihave Hbufs' := (Entails.of_eq (bigSep_sep' _ _ _)) $$ Hbufs
  icases Hbufs' with ⟨Hkp, Hvp⟩
  ihave HwO := (Entails.of_eq (bigSep_sep' Finset.univ (fun b : Fin 4 => outing (F := F) c b)
    (fun b => (atPos ER (dcell c (ox b)) 0 ∅ 0 : sProp 𝕄))).symm) $$ [Houting HatO]
  · isplitl [Houting] <;> iassumption
  rw [wp_bind]
  iapply (wp_seqFin c 4 (invO X κ c) (waitOP (F := F)) (waitOP_run X κ c) _)
  isplitl [HO HwO]
  · unfold invO
    rw [bigSep_finFrom_zero, bigSep_finUpTo_zero]
    isplitr; · iexact HR
    isplitl [HO]; · iexact HO
    isplitl [HwO]; · iexact HwO
    iempintro
  unfold invO
  rw [bigSep_finFrom_self, bigSep_finUpTo_self]
  iintro ⟨-, HO, -, Houts⟩
  ihave Houts' := (Entails.of_eq (bigSep_sep' _ _ _)) $$ Houts
  icases Houts' with ⟨Hog, HzO⟩
  unfold outPay
  ihave Hog' := (Entails.of_eq (bigSep_sep' _ _ _)) $$ Hog
  icases Hog' with ⟨Ho, Hg⟩
  ihave HwS := (prs_pair _ _) $$ [Hsent HatS]
  · isplitl [Hsent]
    · iapply (show (bigSep Finset.univ fun p => iprop(sent (F := F) c false p ∗ sent c true p)) ⊢ prs (sent (F := F) c) from Entails.refl _) $$ Hsent
    · iexact HatS
  iapply (wp_seqFin c 5 (invW X κ c) (waitP (F := F)) (waitP_run X κ c) _)
  isplitl [HO HwS]
  · unfold invW
    rw [bigSep_finFrom_zero, bigSep_finUpTo_zero]
    isplitr; · iexact HR
    isplitl [HO]; · iexact HO
    isplitl [HwS]; · unfold prs; iexact HwS
    iempintro
  unfold invW
  rw [bigSep_finFrom_self, bigSep_finUpTo_self]
  iintro ⟨-, HO, -, Hback⟩
  ihave Hback' := (show (bigSep Finset.univ fun p => iprop(backS X c false p ∗ backS X c true p)) ⊢ iprop(prs (srcP X c) ∗ prs fun v p => semVal (dcell c (sx v p)) 0)
    from prs_unpair (srcP X c) (fun v p => semVal (dcell c (sx v p)) 0)) $$ Hback
  icases Hback' with ⟨Hsrc, HzS⟩
  ihave Hsrc' := (Entails.of_eq (src_split X c).symm) $$ Hsrc
  icases Hsrc' with ⟨HKs, HVs⟩
  iapply Hk
  unfold bodyPost zeros staged scratch
  isplitl [HzB]; · iexact HzB
  isplitl [HzS HzR HzO]
  · isplitl [HzS]; · iexact HzS
    isplitl [HzR]; · unfold prs; iexact HzR
    iexact HzO
  isplitl [Hq HK HV HKs HVs]
  · isplitl [Hq]; · iexact Hq
    isplitl [HK HKs]
    · iapply (share_k c (X.K c)).2
      isplitl [HKs] <;> iassumption
    · iapply (share_v c (X.V c)).2
      isplitl [HVs] <;> iassumption
  isplitl [Hkp Hvp Hl Ha Hg]
  · isplitl [Hkp]; · iexists _; iapply (Entails.of_eq (split_kp c (X.K (pr c)) fullShare).symm) $$ Hkp
    isplitl [Hvp]; · iexists _; iapply (Entails.of_eq (split_vp c (X.V (pr c)) fullShare).symm) $$ Hvp
    isplitl [Hl]; · iexists _; iexact Hl
    isplitl [Ha]; · iexists _; iexact Ha
    iexists _; iapply (Entails.of_eq (split_g c (X.out c)).symm) $$ Hg
  isplitl [Ho]; · iapply (Entails.of_eq (split_o c (X.out c)).symm) $$ Ho
  iexact HO

end Cert.KernelIdeal.Pair

end
-- ==== Proof.Deal.lean ====
/- What the launch hands out: every cell's invariant, every duty's token at the device that pays it, the credit of the receipts; and
   the kernel's own cells opened when the region is entered. -/
module

public import proofs.«01_k».proof.Proof.Run
public import Idealize.ShloMosaic.Lib.Pipeline.Regions
public import Idealize.ShloMosaic.Harness.Basic

@[expose] public section

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Ins F) (κ : GSem nD τ sig → ℕ) (c : Dev nD)

/-! ## The twenty-four cells by what they are for -/

theorem deal24 (Φ : Fin 24 → sProp 𝕄) :
    bigSep Finset.univ Φ = iprop((prs fun v p => Φ (sx v p)) ∗ (prs fun v p => Φ (rx v p)) ∗ bigSep Finset.univ fun b => Φ (ox b)) := by
  unfold prs
  rw [bigSep_univ_eq_bigSepL [0, 1, 2, 3, 4, 5, 6, 7, 8, 9, 10, 11, 12, 13, 14, 15, 16, 17, 18, 19, 20, 21, 22, 23] (by decide) (by decide) Φ,
    bigSep_univ_eq_bigSepL [0, 1, 2, 3, 4] (by decide) (by decide) (fun p : Fin 5 => iprop(Φ (sx false p) ∗ Φ (sx true p))),
    bigSep_univ_eq_bigSepL [0, 1, 2, 3, 4] (by decide) (by decide) (fun p : Fin 5 => iprop(Φ (rx false p) ∗ Φ (rx true p))),
    bigSep_univ_eq_bigSepL [0, 1, 2, 3] (by decide) (by decide) (fun b : Fin 4 => Φ (ox b))]
  show iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19
      ∗ Φ 20 ∗ Φ 21 ∗ Φ 22 ∗ Φ 23)
    = iprop(((Φ 0 ∗ Φ 1) ∗ (Φ 2 ∗ Φ 3) ∗ (Φ 4 ∗ Φ 5) ∗ (Φ 6 ∗ Φ 7) ∗ Φ 8 ∗ Φ 9)
      ∗ ((Φ 10 ∗ Φ 11) ∗ (Φ 12 ∗ Φ 13) ∗ (Φ 14 ∗ Φ 15) ∗ (Φ 16 ∗ Φ 17) ∗ Φ 18 ∗ Φ 19) ∗ Φ 20 ∗ Φ 21 ∗ Φ 22 ∗ Φ 23)
  simp only [assoc]

/-- The kernel's own semaphores. -/
def osem (x : Fin 24) : SemLoc sig := .dma (dsem x)

theorem own_zeros : (Pipeline.ownSems0 osem c : sProp 𝕄) = zeros (F := F) c := by
  unfold zeros
  exact deal24 (fun x => semVal (dcell c x) 0)

/-! ## The cells opened -/

/-- What the launch leaves with device c, its DMA cells not yet open: their rights to open, its barrier position, and the tokens of
    the duties it pays. -/
def linear : sProp 𝕄 :=
  iprop(atPos ER (barCell c) 0 ∅ 0 ∗ (bigSep Finset.univ fun x => openTok ER (dcell c x))
    ∗ dutyTok ER (barCell (pr c)) 0 () ∗ (prs fun v p => dutyTok ER (dcell c (sx v p)) 0 ())
    ∗ (prs fun v p => dutyTok ER (dcell (pr c) (rx v p)) 0 ()) ∗ bigSep Finset.univ fun b => dutyTok ER (dcell c (ox b)) 0 ())

theorem open_cell (x : Fin 24) : iprop(records X κ ∗ (openTok ER (dcell c x) ∗ semVal (dcell c x) 0))
    ⊢ iprop(|={Set.univ}=> (atPos ER (dcell c x) 0 ∅ 0 ∗ reached ER (dcell c x) 0)) := by
  iintro ⟨HR, Ho, Hz⟩
  ihave HI := (inv_dma X κ c x) $$ HR
  iapply (Rounds.cell_open ER (talkRd X) (g := dcell c x) (Set.mem_univ (κ (dcell c x)))) $$ [HI Ho Hz]
  isplitl [HI]; · iexact HI
  isplitl [Ho] <;> iassumption

theorem open_cells : iprop(records X κ ∗ bigSep Finset.univ fun x => iprop(openTok ER (dcell c x) ∗ semVal (dcell c x) 0))
    ⊢ iprop(|={Set.univ}=> bigSep Finset.univ fun x => iprop(atPos ER (dcell c x) 0 ∅ 0 ∗ reached ER (dcell c x) 0)) :=
  (bigSep_with_persistent (R := records X κ) fun x _ => open_cell X κ c x).trans (bigSep_fupd _ _)

theorem open_all : iprop(records X κ ∗ linear (F := F) c ∗ Pipeline.ownSems0 osem c) ⊢ (|={Set.univ}=> opened X κ c : sProp 𝕄) := by
  unfold linear
  rw [show (Pipeline.ownSems0 osem c : sProp 𝕄) = bigSep Finset.univ fun x => semVal (dcell c x) 0 from rfl]
  iintro ⟨#HR, ⟨HatB, Hop, HtB, HtS, HtR, HtO⟩, Hz⟩
  ihave Hoz := (Entails.of_eq (bigSep_sep' Finset.univ (fun x : Fin 24 => (openTok ER (dcell c x) : sProp 𝕄)) (fun x => semVal (dcell c x) 0)).symm) $$ [Hop Hz]
  · isplitl [Hop] <;> iassumption
  imod (open_cells X κ c) $$ [Hoz] with Hall
  · isplitr; · iexact HR
    iexact Hoz
  ihave Hall' := (Entails.of_eq (bigSep_sep' Finset.univ (fun x : Fin 24 => (atPos ER (dcell c x) 0 ∅ 0 : sProp 𝕄)) (fun x => reached ER (dcell c x) 0))) $$ Hall
  icases Hall' with ⟨Hat, Hr⟩
  ihave Hat' := (Entails.of_eq (deal24 (fun x : Fin 24 => (atPos ER (dcell c x) 0 ∅ 0 : sProp 𝕄)))) $$ Hat
  ihave Hr' := (Entails.of_eq (deal24 (fun x : Fin 24 => (reached ER (dcell c x) 0 : sProp 𝕄)))) $$ Hr
  icases Hat' with ⟨HatS, HatR, HatO⟩
  icases Hr' with ⟨HrS, HrR, HrO⟩
  ihave HS := (prs_pair (fun v p => (dutyTok ER (dcell c (sx v p)) 0 () : sProp 𝕄)) (fun v p => reached ER (dcell c (sx v p)) 0)) $$ [HtS HrS]
  · isplitl [HtS] <;> iassumption
  ihave HO := (Entails.of_eq (bigSep_sep' Finset.univ (fun b : Fin 4 => (dutyTok ER (dcell c (ox b)) 0 () : sProp 𝕄)) (fun b => reached ER (dcell c (ox b)) 0)).symm) $$ [HtO HrO]
  · isplitl [HtO] <;> iassumption
  imodintro
  unfold opened
  isplitr; · iexact HR
  isplitl [HatB]; · iexact HatB
  isplitl [HtB]; · iexact HtB
  isplitl [HatS]; · iexact HatS
  isplitl [HatR]; · iexact HatR
  isplitl [HatO]; · iexact HatO
  isplitl [HS]; · iexact HS
  isplitl [HtR]; · iexact HtR
  isplitl [HrR]; · iexact HrR
  iexact HO

/-! ## The tokens -/

theorem disjoint_cells : Disjoint (barCells : Finset (GSem nD τ sig)) dmaCells := by
  rw [Finset.disjoint_left]
  rintro g h₁ h₂
  obtain ⟨c, -, rfl⟩ := Finset.mem_map.mp h₁
  obtain ⟨ck, -, h⟩ := Finset.mem_map.mp h₂
  have h' : dmaEmb ck = barEmb c := h
  exact nomatch (congrArg Prod.snd h' : SemLoc.dma (dsem ck.2) = SemLoc.reg barrier0)

/-- One token a cell. -/
def talkToks : Finset (GSem nD τ sig × ℕ × Unit) :=
  (barCells ∪ dmaCells).map ⟨fun g => (g, 0, ()), fun _ _ h => congrArg Prod.fst h⟩

def toks : sProp 𝕄 :=
  iprop(dutyTok ER (barCell c) 0 () ∗ (prs fun v p => dutyTok ER (dcell c (sx v p)) 0 ())
    ∗ (prs fun v p => dutyTok ER (dcell c (rx v p)) 0 ()) ∗ bigSep Finset.univ fun b => dutyTok ER (dcell c (ox b)) 0 ())

theorem by_device (Φ : GSem nD τ sig → sProp 𝕄) : bigSep dmaCells Φ = bigSep Finset.univ fun c : Dev nD => bigSep Finset.univ fun x => Φ (dcell c x) := by
  rw [bigSep_map, bigSep_univ_prod]; rfl

theorem toks_eq : bigSep talkToks (fun x => (dutyTok ER x.1 x.2.1 x.2.2 : sProp 𝕄)) = bigSep Finset.univ fun c : Dev nD => toks (F := F) c := by
  unfold talkToks
  rw [bigSep_map, bigSep_union disjoint_cells, by_device, bigSep_map]
  rw [show (bigSep Finset.univ fun c : Dev nD => toks (F := F) c)
    = bigSep Finset.univ fun c : Dev nD => iprop(dutyTok ER (barCell c) 0 () ∗ bigSep Finset.univ fun x => dutyTok ER (dcell c x) 0 ())
    from bigSep_congr fun c _ => by unfold toks; rw [deal24 (fun x : Fin 24 => (dutyTok ER (dcell c x) 0 () : sProp 𝕄))]]
  exact (bigSep_sep' Finset.univ (fun c : Dev nD => (dutyTok ER (barCell c) 0 () : sProp 𝕄)) _).symm

/-- The barrier's and the receipts' tokens go to the other end. -/
theorem toks_around :
    (bigSep Finset.univ fun c : Dev nD => (toks (F := F) c : sProp 𝕄))
      ⊢ bigSep Finset.univ fun c : Dev nD => iprop(dutyTok ER (barCell (pr c)) 0 () ∗ (prs fun v p => dutyTok ER (dcell c (sx v p)) 0 ())
        ∗ (prs fun v p => dutyTok ER (dcell (pr c) (rx v p)) 0 ()) ∗ bigSep Finset.univ fun b => dutyTok ER (dcell c (ox b)) 0 ()) := by
  unfold toks
  rw [bigSep_sep', bigSep_sep', bigSep_sep', bigSep_sep', bigSep_sep', bigSep_sep',
    bigSep_univ_equiv ends (fun c : Dev nD => (dutyTok ER (barCell c) 0 () : sProp 𝕄)),
    bigSep_univ_equiv ends (fun c : Dev nD => (prs fun v p => dutyTok ER (dcell c (rx v p)) 0 () : sProp 𝕄))]
  exact BI.Entails.refl _

/-! ## The credit -/

theorem pr_eq (d c : Dev nD) : pr d = c ↔ d = pr c := ⟨fun h => by rw [← h, pr_pr], fun h => by rw [h, pr_pr]⟩

theorem cell_eq {d c : Dev nD} {v v' : Bool} {p p' : Fin 5} (h : dcell d (rx v p) = dcell c (rx v' p')) : d = c ∧ v = v' ∧ p = p' := by
  have h1 : d = c := congrArg (fun g : GSem nD τ sig => g.1.1) h
  have h2 : rx v p = rx v' p' := dsem_inj (SemLoc.dma.inj (congrArg Prod.snd h))
  exact ⟨h1, (by decide : ∀ (v v' : Bool) (p p' : Fin 5), rx v p = rx v' p' → v = v' ∧ p = p') v v' p p' h2⟩

theorem bar_ne (d c : Dev nD) (x : Fin 24) : barCell d ≠ dcell c x := fun h => nomatch (congrArg Prod.snd h : SemLoc.reg barrier0 = SemLoc.dma (dsem x))

theorem tally_recv (d c : Dev nD) (v v' : Bool) (p p' : Fin 5) :
    (tallyAt (dcell (pr d) (rx v' p')) () (NP v' p') : CellTallies nD τ sig Unit) (dcell c (rx v p)) () = if d = pr c ∧ v' = v ∧ p' = p then NP v p else 0 := by
  rw [tallyAt_apply]
  by_cases h : d = pr c ∧ v' = v ∧ p' = p
  · obtain ⟨rfl, rfl, rfl⟩ := h
    rw [if_pos ⟨by rw [pr_pr], rfl⟩, if_pos ⟨rfl, rfl, rfl⟩]
  · rw [if_neg h, if_neg fun h' => h (by
      obtain ⟨h1, h2, h3⟩ := cell_eq h'.1
      exact ⟨(pr_eq d c).mp h1.symm, h2.symm, h3.symm⟩)]

theorem debt_recv (d c : Dev nD) (v : Bool) (p p' : Fin 5) :
    debt d p' (dcell c (rx v p)) () = if d = pr c ∧ p' = p then NP v p else 0 := by
  unfold debt
  rw [Pi.add_apply, Finsupp.add_apply, tally_recv, tally_recv]
  cases v <;> by_cases h : d = pr c ∧ p' = p <;> simp [h]

theorem owed_recv (d c : Dev nD) (v : Bool) (p : Fin 5) : O₀ d (dcell c (rx v p)) () = if d = pr c then NP v p else 0 := by
  unfold O₀ debts
  rw [Pi.add_apply, Finsupp.add_apply, tallyAt_ne_cell (fun h => bar_ne _ _ _ h.symm), Finsupp.zero_apply, Nat.add_zero,
    Finset.sum_apply, Finsupp.finset_sum_apply, Finset.sum_congr rfl fun p' _ => debt_recv d c v p p']
  by_cases h : d = pr c
  · simp only [h, true_and, if_true]
    rw [Finset.sum_ite_eq' Finset.univ p fun _ => NP v p, if_pos (Finset.mem_univ _)]
  · simp only [h, false_and, if_false, Finset.sum_const_zero]

theorem owed_bar (d c : Dev nD) : O₀ d (barCell c) () = if d = pr c then 1 else 0 := by
  have h0 : debts d (barCell c) () = 0 := by
    by_contra h
    obtain ⟨v, p, h'⟩ := debts_pos (Nat.pos_of_ne_zero h)
    exact bar_ne _ _ _ h'
  unfold O₀
  rw [Pi.add_apply, Finsupp.add_apply, h0, Nat.zero_add, tallyAt_apply]
  by_cases h : d = pr c
  · rw [if_pos ⟨by rw [h, pr_pr], rfl⟩, if_pos h]
  · rw [if_neg (fun ⟨h1, _⟩ => h ((pr_eq d c).mp (congrArg (fun g : GSem nD τ sig => g.1.1) h1).symm)), if_neg h]

theorem launch_bar : tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c, Finset.sum_ite_eq' Finset.univ (pr c) fun _ => 1,
    if_pos (Finset.mem_univ _)]
theorem launch_recv (v : Bool) (p : Fin 5) : tallyOn (dcell c (rx v p)) (launchCredit (Pipeline.owing O₀) 0 (dcell c (rx v p)))
    = (tallyAt (dcell c (rx v p)) () (NP v p) : CellTallies nD τ sig Unit) := by
  unfold tallyAt; refine congrArg _ (Finsupp.ext fun u => ?_); cases u
  rw [Pipeline.launchCredit_owing, Finsupp.single_eq_same, Finset.sum_congr rfl fun d _ => owed_recv d c v p, Finset.sum_ite_eq' Finset.univ (pr c) fun _ => NP v p,
    if_pos (Finset.mem_univ _)]

/-- The receipt cells among a device's semaphores. -/
def recvEmb : Fin 5 × Bool ↪ SemLoc sig :=
  ⟨fun pv => .dma (dsem (rx pv.2 pv.1)), fun a b h => by
    have h2 : rx a.2 a.1 = rx b.2 b.1 := dsem_inj (SemLoc.dma.inj h)
    exact (by decide : ∀ a b : Fin 5 × Bool, rx a.2 a.1 = rx b.2 b.1 → a = b) a b h2⟩

theorem creds : (Pipeline.launchCred O₀ c : sProp 𝕄) ⊢ credits (F := F) c := by
  unfold Pipeline.launchCred credits
  rw [bigSep_univ_at _ (SemLoc.reg barrier0), launch_bar]
  have e : (prs fun v p => (cred (tallyAt (dcell c (rx v p)) () (NP v p)) : sProp 𝕄))
      = bigSep (Finset.univ.map recvEmb) fun sm => cred (tallyOn ((c : Thread nD τ), sm) (launchCredit (Pipeline.owing O₀) 0 ((c : Thread nD τ), sm))) := by
    rw [bigSep_map, bigSep_univ_prod]
    unfold prs
    refine bigSep_congr fun p _ => ?_
    rw [bigSep_univ_eq_bigSepL [false, true] (by decide) (by decide)]
    dsimp only
    rw [← launch_recv c false p, ← launch_recv c true p]
    rfl
  rw [e]
  refine sep_mono_right (BI.bigSep_subset fun sm h => ?_)
  obtain ⟨pv, -, rfl⟩ := Finset.mem_map.mp h
  exact Finset.mem_erase.mpr ⟨(by intro h; cases h), Finset.mem_univ _⟩

end Cert.KernelIdeal.Pair

end
-- ==== Proof.Main.lean ====
/- The launch: the host operations around the one region, the region's contract at each device, and the run of the whole program. -/
module

public import proofs.«01_k».proof.Proof.Deal
public import proofs.«01_k».proof.Proof.Gen.KernelIdeal.Frame
public import Idealize.ShloMosaic.Lib.Pipeline.RegionTalk
public import Idealize.ShloMosaic.Harness.Basic

@[expose] public section

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The contents of the buffers, stretch by stretch -/

def V₀ (c : Dev nD) : Valuation τ sig (Elt F) := fun b => m (c, b)
/-- When the region is entered. -/
def V₁ (c : Dev nD) : Valuation τ sig (Elt F) := StableHlo.after hostOps0 (V₀ m c)

/-- What the region finds in the three windows' arrays. -/
def insOf : Ins F where
  Q c := (win0_0.blk t0_0).view.read (Elt F) (V₁ m c (Proc.devRef .tc main_v2))
  K c := (win0_1.blk t0_0).view.read (Elt F) (V₁ m c (Proc.devRef .tc main_v4))
  V c := (win0_2.blk t0_0).view.read (Elt F) (V₁ m c (Proc.devRef .tc main_v6))

/-- When it is left. -/
def V₂ (c : Dev nD) : Valuation τ sig (Elt F) := Function.update (V₁ m c) (Proc.devRef .tc main_v7) ((insOf m).out c)
/-- At the end. -/
def V₃ (c : Dev nD) : Valuation τ sig (Elt F) := StableHlo.after hostOps1 (V₂ m c)

theorem V₂_out (c : Dev nD) : V₂ m c (Proc.devRef .tc main_v7) = (insOf m).out c := Function.update_self ..
theorem V₂_ne (c : Dev nD) (b : DevRef τ sig) (h : b ≠ Proc.devRef .tc main_v7) : V₂ m c b = V₁ m c b := Function.update_of_ne h ..

/-! ## The region's data -/

abbrev adm : (p : Fin 1) → (pcfgs (F := F) p).Adm := fun p => (cfgs p).toPCfg_adm

/-- What enters the region beside the buffers, before and after its cells are opened. -/
def Tk (c : Dev nD) : sProp 𝕄 := iprop((∃ κ, (records (insOf m) κ ∗ linear (F := F) c)) ∗ credits (F := F) c)
def Xk (c : Dev nD) : sProp 𝕄 := iprop((∃ κ, opened (insOf m) κ c) ∗ credits (F := F) c ∗ levAts L lv)
def Yk (c : Dev nD) : sProp 𝕄 := semVal (barCell c) 0

def Φ₀ (c : Dev nD) : sProp 𝕄 :=
  iprop(Xk m c ∗ pts c oM Finset.univ fullShare (V₁ m c (Proc.devRef .tc main_v7)) ∗ scratch (F := F) c ∗ ∃ r, prngReg c r)
def Φ₁ (c : Dev nD) : sProp 𝕄 :=
  iprop(Yk c ∗ zeros (F := F) c ∗ pts c oM Finset.univ fullShare ((insOf m).out c) ∗ scratch (F := F) c ∗ ∃ r, prngReg c r)

def dat (c : Dev nD) : Dat τ (Elt F) Unit ℕ UU ℕ cfg0 c where
  A w := V₁ m c (Proc.devRef .tc (Pipeline.arrRef spec0 w))
  after w _ := match w with
    | 0 => (insOf m).Q c
    | 1 => (insOf m).K c
    | 2 => (insOf m).V c
    | ⟨_ + 3, h⟩ => absurd h (Nat.not_lt.2 (Nat.le_add_left _ _))
  Φ t := if t.val = 0 then Φ₀ m c else Φ₁ m c
  q _ := fullShare
  owed t := if t.val = 0 then O₀ c else 0

def pdats : (p : Fin 1) → (c : Dev nD) → Dat τ (Elt F) Unit ℕ UU ℕ (Pipeline.pin (pcfgs (F := F)) adm p) c := fun _ c => dat m c

theorem owed_first (c : Dev nD) : (dat m c).owed t0_0.castSucc = O₀ c := by
  show (if (t0_0.castSucc : Fin (cfg0.N + 1)).val = 0 then O₀ c else 0) = O₀ c; exact if_pos rfl
theorem owed_zero (c : Dev nD) : (pdats m 0 c).owed 0 = O₀ c := by
  show (if ((0 : Fin (cfg0.N + 1)).val = 0) then O₀ c else 0) = O₀ c; exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]

theorem owesAt_intro (c : Dev nD) (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin Dat.bound; rw [h0, show (dat m c).recorded t = Set.univ from rfl]
  iintro HO; iexists W; isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

/-- The staging buffers hold the three arrays, before and after. -/
theorem staged_eq (c : Dev nD) : (staged (insOf m) c : sProp 𝕄)
    = iprop(owns (c : Thread nD τ) (win0_0.stage (cfg0.slots t0_0 0)) fullShare ((insOf m).Q c)
        ∗ owns (c : Thread nD τ) (win0_1.stage (cfg0.slots t0_0 1)) fullShare ((insOf m).K c)
        ∗ owns (c : Thread nD τ) (win0_2.stage (cfg0.slots t0_0 2)) fullShare ((insOf m).V c)) := by
  show staged (insOf m) c = iprop(owns (c : Thread nD τ) (Memref.whole cc0_stg0_0) fullShare ((insOf m).Q c)
        ∗ owns (c : Thread nD τ) (Memref.whole cc0_stg1_0) fullShare ((insOf m).K c)
        ∗ owns (c : Thread nD τ) (Memref.whole cc0_stg2_0) fullShare ((insOf m).V c))
  rw [owns_whole, owns_whole, owns_whole]
  rfl

theorem after_0 (c : Dev nD) : (dat m c).after 0 t0_0 = (insOf m).Q c := rfl
theorem after_1 (c : Dev nD) : (dat m c).after 1 t0_0 = (insOf m).K c := rfl
theorem after_2 (c : Dev nD) : (dat m c).after 2 t0_0 = (insOf m).V c := rfl
theorem before_0 (c : Dev nD) (d) : (dat m c).before 0 t0_0 d = (insOf m).Q c := if_pos (fetch0_0 t0_0)
theorem before_1 (c : Dev nD) (d) : (dat m c).before 1 t0_0 d = (insOf m).K c := if_pos (fetch0_1 t0_0)
theorem before_2 (c : Dev nD) (d) : (dat m c).before 2 t0_0 d = (insOf m).V c := if_pos (fetch0_2 t0_0)

def pointIn (c : Dev nD) : sProp 𝕄 :=
  iprop(Φ₀ m c ∗ (dat m c).owesAt () t0_0.castSucc
    ∗ (∃ d, owns (c : Thread nD τ) (win0_0.stage (cfg0.slots t0_0 0)) fullShare ((dat m c).before 0 t0_0 d))
    ∗ (∃ d, owns (c : Thread nD τ) (win0_1.stage (cfg0.slots t0_0 1)) fullShare ((dat m c).before 1 t0_0 d))
    ∗ (∃ d, owns (c : Thread nD τ) (win0_2.stage (cfg0.slots t0_0 2)) fullShare ((dat m c).before 2 t0_0 d)))
def pointOut (c : Dev nD) : sProp 𝕄 :=
  iprop(Φ₁ m c ∗ (dat m c).owesAt () t0_0.succ
    ∗ owns (c : Thread nD τ) (win0_0.stage (cfg0.slots t0_0 0)) fullShare ((insOf m).Q c)
    ∗ owns (c : Thread nD τ) (win0_1.stage (cfg0.slots t0_0 1)) fullShare ((insOf m).K c)
    ∗ owns (c : Thread nD τ) (win0_2.stage (cfg0.slots t0_0 2)) fullShare ((insOf m).V c))

theorem staged_of (c : Dev nD) :
    iprop((∃ d, owns (c : Thread nD τ) (win0_0.stage (cfg0.slots t0_0 0)) fullShare ((dat m c).before 0 t0_0 d))
      ∗ (∃ d, owns (c : Thread nD τ) (win0_1.stage (cfg0.slots t0_0 1)) fullShare ((dat m c).before 1 t0_0 d))
      ∗ (∃ d, owns (c : Thread nD τ) (win0_2.stage (cfg0.slots t0_0 2)) fullShare ((dat m c).before 2 t0_0 d)))
      ⊢ (staged (insOf m) c : sProp 𝕄) := by
  rw [staged_eq]
  simp only [before_0, before_1, before_2]
  iintro ⟨⟨%_, H0⟩, ⟨%_, H1⟩, %_, H2⟩
  isplitl [H0]; · iexact H0
  isplitl [H1] <;> iassumption

theorem point_run (c : Dev nD) : pointIn m c ⊢ wp frame (wpE defs₀ 𝒱₀ (c : Thread nD τ) none) Set.univ (body (F := F)) fun _ => pointOut m c := by
  unfold pointIn Φ₀ Xk
  iintro ⟨⟨⟨⟨%κ, Hop⟩, Hcr, Hlev⟩, Ho, Hsc, Hreg⟩, HO, Hst⟩
  ihave Hst' := (staged_of m c) $$ Hst
  ihave HO' := (owesAt_elim m c _ (O₀ c) (owed_first m c)) $$ HO
  icases HO' with ⟨%W, HO⟩
  iapply (body_run (insOf m) κ c (V₁ m c (Proc.devRef .tc main_v7)) W _)
  isplitr [Hreg]
  · unfold bodyPre
    isplitl [Hop]; · iexact Hop
    isplitl [Hcr]; · iexact Hcr
    isplitl [Hlev]; · iexact Hlev
    isplitl [Hst']; · iexact Hst'
    isplitl [Hsc]; · iexact Hsc
    isplitl [Ho]; · iexact Ho
    iexact HO
  unfold bodyPost pointOut Φ₁ Yk
  iintro ⟨Hb, Hz, Hst, Hsc, Ho, ⟨%W', HO⟩⟩
  isplitr [HO Hst]
  · isplitl [Hb]; · iexact Hb
    isplitl [Hz]; · iexact Hz
    isplitl [Ho]; · iexact Ho
    isplitl [Hsc]; · iexact Hsc
    iexact Hreg
  isplitl [HO]; · iapply (owesAt_intro m c t0_0.succ 0 (owed_last m c) W') $$ HO
  iapply (Entails.of_eq (staged_eq m c)) $$ Hst

/-- The body as the pipeline calls it. -/
theorem prog_eq : (defs₀ (F := F)) .tc cfg0.body (cfg0.bodyArgs t0_0 (cfg0.slots t0_0)) = body (F := F) := by
  rw [← body_eq]
  sl_kernel_rfl

theorem point_of (c : Dev nD) (b : Prog (TpuEff nD τ sig (Elt F) Λ₀ .tc) PUnit) (h : b = body) :
    pointIn m c ⊢ wp frame (wpE defs₀ 𝒱₀ (c : Thread nD τ) none) Set.univ b fun _ => pointOut m c := by
  subst h
  exact point_run m c

theorem body_ok (c : Dev nD) : BodyObligation (dat m c) defs₀ 𝒱₀ () Set.univ := fun t => by
  obtain rfl := fin_N0 t
  rw [bigSep_W0, bigSep_W0]
  rw [show (dat m c).Φ t0_0.castSucc = Φ₀ m c from rfl, show (dat m c).Φ t0_0.succ = Φ₁ m c from rfl]
  have h := point_of m c _ prog_eq
  unfold pointIn pointOut at h
  dsimp only at h ⊢
  rw [after_0, after_1, after_2]
  refine cast ?_ h
  congr 1

/-! ## The segments -/

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- The unscoped buffers, all of them; those the region stages no window of; the one it writes. -/
abbrev bufs : Finset (DevRef τ sig) := Pipeline.ucRefs τ sig
abbrev outRef : DevRef τ sig := Proc.devRef .tc main_v7
abbrev arrs : Finset (DevRef τ sig) := Pipeline.arrRefs (τ := τ) spec0
abbrev rest : Finset (DevRef τ sig) := bufs \ arrs

theorem hop0_sub : ∀ op ∈ (hostOps0 : List (HloOp τ sig (Elt F))), op.bufs ⊆ bufs := fun op h =>
  Pipeline.sub_ucRefs op (List.forall_iff_forall_mem.mp hostOps0_sub op h)
theorem hop1_sub : ∀ op ∈ (hostOps1 : List (HloOp τ sig (Elt F))), op.bufs ⊆ bufs := fun op h =>
  Pipeline.sub_ucRefs op (List.forall_iff_forall_mem.mp hostOps1_sub op h)

/-- What rides beside the buffers up to the region, and after it. -/
def R₀ (c : Dev nD) : sProp 𝕄 := iprop((Tk m c ∗ ∃ r, prngReg c r) ∗ ∃ W, owes (c : Thread nD τ) (O₀ c) W)
def R₁ (c : Dev nD) : sProp 𝕄 := iprop(Yk (F := F) c ∗ ∃ W, owes (c : Thread nD τ) (0 : CellTallies nD τ sig Unit) W)

def seg0 : ℍ := Pipeline.HostSeg.ofOps _ _ _ _ _ bufs hostOps0 hop0_sub (List.forall_iff_forall_mem.mp hostOps0_fresh) (V₀ m) (R₀ m)
def seg1 : ℍ := Pipeline.HostSeg.ofOps _ _ _ _ _ bufs hostOps1 hop1_sub (List.forall_iff_forall_mem.mp hostOps1_fresh) (V₂ m) (R₁ (F := F))

theorem hopen (c : Dev nD) : iprop(Tk m c ∗ Pipeline.ownSems0 osem c ∗ levAts L lv) ⊢ (|={Set.univ}=> Xk m c : sProp 𝕄) := by
  unfold Tk Xk
  iintro ⟨⟨⟨%κ, HR, Hl⟩, Hcr⟩, Hz, Hlev⟩
  imod (open_all (insOf m) κ c) $$ [HR Hl Hz] with Hop
  · isplitl [HR]; · iexact HR
    isplitl [Hl] <;> iassumption
  imodintro
  isplitl [Hop]; · iexists κ; iexact Hop
  isplitl [Hcr] <;> iassumption

theorem scoped_eq (c : Dev nD) :
    (Pipeline.scopedRest (Ix := Unit) (Name := ℕ) (U := UU) (Lvl := ℕ) (Val := Elt F) (Pipeline.pin (pcfgs (F := F)) adm 0).spec c : sProp 𝕄) = scratch c :=
  scopedRest0_eq c

theorem held_out (c : Dev nD) (W : Valuation τ sig (Elt F)) :
    (StableHlo.held (c.tc : Thread nD τ) {outRef} W : sProp 𝕄) = pts c oM Finset.univ fullShare (W outRef) := by
  unfold StableHlo.held
  rw [BI.bigSep_singleton]

theorem hin (c : Dev nD) :
    iprop(Pipeline.scopedRest (Pipeline.pin (pcfgs (F := F)) adm 0).spec c ∗ (∃ r, prngReg c r) ∗ StableHlo.held (c.tc : Thread nD τ) {outRef} (V₁ m c) ∗ Xk m c)
      ⊢ (pdats m 0 c).Φ 0 := by
  rw [show (pdats m 0 c).Φ 0 = Φ₀ m c from rfl, scoped_eq, held_out]
  unfold Φ₀
  iintro ⟨Hs, Hp, Ho, HX⟩
  isplitl [HX]; · iexact HX
  isplitl [Ho]; · iexact Ho
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) {outRef} (V₂ m c)
        ∗ Pipeline.ownSems0 osem c ∗ Yk c) := by
  rw [show (pdats m 0 c).Φ (Fin.last _) = Φ₁ m c from rfl, scoped_eq, held_out, own_zeros, V₂_out]
  unfold Φ₁
  iintro ⟨Hb, Hz, Ho, Hs, Hp⟩
  isplitl [Hs]; · iexact Hs
  isplitl [Hp]; · iexact Hp
  isplitl [Ho]; · iexact Ho
  isplitl [Hz] <;> iassumption

theorem cutD (c : Dev nD) (t : Fin (cfg0.N + 1)) (g : GSem nD τ sig) (i : Unit) (h : 0 < (dat m c).owed t g i) : i ∈ L g ∧ (0 : ℕ) < lv g i := by
  have e : (dat m c).owed t = if t.val = 0 then O₀ c else 0 := rfl
  rw [e] at h
  split at h
  · rcases O₀_pos h with ⟨v, p, rfl⟩ | rfl
    · exact ⟨by rw [L_tc]; exact Finset.mem_singleton_self _, by rw [lv_recv]; decide⟩
    · exact ⟨by rw [L_tc]; exact Finset.mem_singleton_self _, by rw [lv_bar]; decide⟩
  · exact absurd h (Nat.lt_irrefl 0)

theorem lv_stage (c : Dev nD) : ∀ (w : Fin 3) (s : Fin (win0 w).nbuf), lv ((c : Thread nD τ), .dma ((win0 w).sem s)) () ≤ 0
  | 0, _ => by rfl
  | 1, _ => by rfl
  | 2, _ => by rfl
  | ⟨_ + 3, h⟩, _ => absurd h (Nat.not_lt.2 (Nat.le_add_left _ _))

theorem out_rest : ({outRef} : Finset (DevRef τ sig)) ⊆ rest := by decide
theorem arr_ne : ∀ w : Fin 3, (Proc.devRef .tc (Pipeline.arrRef spec0 w) : DevRef τ sig) ≠ outRef := by decide
theorem arr_in : ∀ w : Fin 3, (win0 w).isOut = false := by decide
theorem arrs_sub : arrs ⊆ bufs := Pipeline.arrRefs_sub_ucRefs spec0 (by decide)
theorem osem_ok : Pipeline.OwnSemFacts spec0 osem := by decide

set_option backward.isDefEq.respectTransparency.types false in
def reg0 : ℝ𝕊 0 :=
  Pipeline.RegionSeg.ofTalk (pcfgs (F := F)) adm (pdats m) () defs₀ 𝒱₀ L lv 0 osem osem_ok
    {outRef} rest out_rest launch0.toP rfl (fun c => (body_ok m c).loose)
    (fun _ => 0) O₀ (fun c => (owed_zero m c).trans (zero_add _).symm) (owed_last m) (fun _ => rfl) (fun c w => ite_self _)
    (V₁ m) (V₂ m) (fun c b hb => V₂_ne m c b fun h => (Finset.mem_sdiff.mp hb).2 (Finset.mem_singleton.mpr h))
    (Tk m) Yk (Xk m) Yk (hopen m) (hin m) (hout m)
    (fun c => by iintro H; imodintro; iexact H)
    (fun _ => 0)
    ⟨fun c w s => by rw [L_tc]; exact Finset.mem_singleton_self _, fun c w s => lv_stage c w s, fun c t g i h => cutD m c t g i h⟩
    (fun _ => iprop(emp))
    (fun c w => rfl)
    (fun c w => by
      rw [V₂_ne m c _ (arr_ne w)]
      exact Dat.arrAt_in _ w (arr_in w) _)

theorem reg0_pre (c : Dev nD) : iprop(StableHlo.held (c : Thread nD τ) bufs (V₁ m c) ∗ R₀ m c) ⊢ (reg0 m).pre c := by
  rw [show (reg0 m).pre c = iprop(StableHlo.held (c.tc : Thread nD τ) arrs (V₁ m c) ∗ (∃ r, prngReg c r)
    ∗ (StableHlo.held (c.tc : Thread nD τ) rest (V₁ m c) ∗ emp) ∗ Tk m c ∗ ∃ Wd, owes (c : Thread nD τ) (0 + O₀ c) Wd) from rfl,
    zero_add, StableHlo.held_sub_split (c.tc : Thread nD τ) arrs_sub (V₁ m c)]
  unfold R₀
  iintro ⟨⟨Ha, Hr⟩, ⟨HT, Hp⟩, HO⟩
  isplitl [Ha]; · iexact Ha
  isplitl [Hp]; · iexact Hp
  isplitl [Hr]
  · isplitl [Hr]; · iexact Hr
    iempintro
  isplitl [HT] <;> iassumption

theorem reg0_post (c : Dev nD) : (reg0 m).post c ⊢ iprop(StableHlo.held (c : Thread nD τ) bufs (V₂ m c) ∗ R₁ (F := F) c) := by
  rw [show (reg0 m).post c = iprop(StableHlo.held (c.tc : Thread nD τ) arrs (V₂ m c) ∗ (∃ r, prngReg c r)
    ∗ (StableHlo.held (c.tc : Thread nD τ) rest (V₂ m c) ∗ emp) ∗ Yk c ∗ ∃ Wd, owes (c : Thread nD τ) (0 : CellTallies nD τ sig Unit) Wd) from rfl,
    StableHlo.held_sub_split (c.tc : Thread nD τ) arrs_sub (V₂ m c)]
  unfold R₁
  iintro ⟨Ha, -, ⟨Hr, -⟩, Hb, HO⟩
  isplitl [Ha Hr]; · isplitl [Ha] <;> iassumption
  isplitl [Hb] <;> iassumption

/-- @main as the list. -/
def segs : List (Pipeline.Seg (pcfgs (F := F)) adm (pdats m) () defs₀ 𝒱₀ L lv) := [.host (seg0 m), .region (reg0 m), .host (seg1 m)]

theorem main_eq (c : Dev nD) : main (F := F) c = Pipeline.Seg.run (segs m) :=
  main_segs adm (pdats m) () 𝒱₀ L lv (seg0 m) (seg1 m) (reg0 m) rfl rfl c

/-! ## The launch -/

/-- The launch element: the pipeline library's at the staging cells; the protocol's. -/
def u₀ : UU :=
  (initOf (Pipeline.cells (Pipeline.pin (pcfgs (F := F)) adm) cellOf_inj) (Pipeline.launchToks (Pipeline.pin (pcfgs (F := F)) adm) cellOf_inj),
    launchOf barCells dmaCells talkToks)

/-- The protocol's launch element, parked whole on device 0 until the global step. -/
def G (c : Dev nD) : sProp 𝕄 := if c = 0 then BI.own (ER (launchOf barCells dmaCells talkToks)) else iprop(emp)
theorem G_all : (bigSep Finset.univ (G (F := F)) : sProp 𝕄) = BI.own (ER (launchOf barCells dmaCells talkToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

abbrev T₀ (c : Dev nD) : sProp 𝕄 := iprop(StableHlo.held (c : Thread nD τ) bufs (V₀ m c) ∗ R₀ m c)
abbrev Tₙ (c : Dev nD) : sProp 𝕄 := iprop(StableHlo.held (c : Thread nD τ) bufs (V₃ m c) ∗ Yk c)

/-- What of a core's launch holdings is not the protocol's ghost state. -/
def bundle (c : Dev nD) : sProp 𝕄 :=
  iprop(StableHlo.held (c : Thread nD τ) bufs (V₀ m c) ∗ credits (F := F) c ∗ owes (c : Thread nD τ) (O₀ c) ∅ ∗ ∃ r, prngReg c r)

theorem T₀_intro (κ : GSem nD τ sig → ℕ) (c : Dev nD) : iprop(records (insOf m) κ ∗ (linear (F := F) c ∗ bundle m c)) ⊢ T₀ m c := by
  unfold bundle T₀ R₀ Tk
  iintro ⟨HR, Hl, Hh, Hcr, HO, Hp⟩
  isplitl [Hh]; · iexact Hh
  isplitr [HO]
  · isplitr [Hp]
    · isplitr [Hcr]
      · iexists κ; isplitl [HR] <;> iassumption
      iexact Hcr
    iexact Hp
  iexists ∅; iexact HO

theorem unscoped_eq : ∀ sm : SemLoc sig, sm.isScoped .tc = false → sm = .reg barrier0 := by decide

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) bufs (V₀ m c)
      from Pipeline.unscopedBufs_held c (V₀ m c), unscopedSems0_eq]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep dmaCells (fun g => (openTok ER g : sProp 𝕄))
      ⊢ bigSep Finset.univ (fun c : Dev nD => bigSep Finset.univ fun x => (openTok ER (dcell c x) : sProp 𝕄)) :=
    Entails.of_eq (by_device fun g => openTok ER g)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := Smoke.bigSep_unpair $$ H'; icases H2 with ⟨HB, H3⟩
  ihave H4 := Smoke.bigSep_unpair $$ H3; icases H4 with ⟨Hv, HG⟩
  ihave Hu := (show bigSep Finset.univ (G (F := F)) ⊢ BI.own (ER (launchOf barCells dmaCells talkToks)) from Entails.of_eq G_all) $$ HG
  imod (Rounds.fund_launch ER (talkRd (insOf m)) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := records (insOf m) κ) (Φ := fun c => iprop(linear (F := F) c ∗ bundle m c)) fun c _ => T₀_intro m κ c)
  isplitr
  · unfold records
    isplitr; · iexact Hinv
    iexact Hr
  iapply Smoke.bigSep_pair
  isplitr [HB]
  · unfold linear
    iapply Smoke.bigSep_pair; isplitl [Hat]; · iapply hat $$ Hat
    iapply Smoke.bigSep_pair; isplitl [Hopen]; · iapply hop $$ Hopen
    iapply (toks_around (F := F))
    iapply (Entails.of_eq (toks_eq (F := F))) $$ Htok
  · iexact HB

/-! ## The run -/

/-- The four buffers the run is judged by. -/
abbrev four : Finset (DevRef τ sig) := {Proc.devRef .tc main_arg0, Proc.devRef .tc main_arg1, Proc.devRef .tc main_arg2, Proc.devRef .tc main_v8}
theorem four_sub : four ⊆ bufs := by decide
theorem held_four (c : Dev nD) (W : Valuation τ sig (Elt F)) : (StableHlo.held (c.tc : Thread nD τ) four W : sProp 𝕄)
    = iprop(((c : Thread nD τ).loc main_arg0 ↦{fullShare} W (Proc.devRef .tc main_arg0)) ∗ ((c : Thread nD τ).loc main_arg1 ↦{fullShare} W (Proc.devRef .tc main_arg1))
      ∗ ((c : Thread nD τ).loc main_arg2 ↦{fullShare} W (Proc.devRef .tc main_arg2)) ∗ ((c : Thread nD τ).loc main_v8 ↦{fullShare} W (Proc.devRef .tc main_v8))) := by
  unfold StableHlo.held
  rw [bigSep_eq_bigSepL_of_eq [Proc.devRef .tc main_arg0, Proc.devRef .tc main_arg1, Proc.devRef .tc main_arg2, Proc.devRef .tc main_v8] (by decide) (by decide)]
  rfl

/-- The host operations write no argument. -/
theorem V₃_arg (c : Dev nD) (r : Ref sig .tc) (h1 : ∀ op ∈ (hostOps0 : List (HloOp τ sig (Elt F))), Proc.devRef .tc r ∉ op.writes)
    (h2 : ∀ op ∈ (hostOps1 : List (HloOp τ sig (Elt F))), Proc.devRef .tc r ∉ op.writes) (h3 : (Proc.devRef .tc r : DevRef τ sig) ≠ outRef) :
    V₃ m c (Proc.devRef .tc r) = m ((c : Thread nD τ).loc r) := by
  unfold V₃
  rw [StableHlo.after_of_forall_not_mem _ _ h2, V₂_ne m c _ h3]
  unfold V₁
  rw [StableHlo.after_of_forall_not_mem _ _ h1]
  rfl

set_option backward.isDefEq.respectTransparency.types false in
/-- The run: every weakly fair execution of @main on the devices terminates; each device's arguments are as launched, its result is
    what the region left through the host operations, and every semaphore is at zero. -/
theorem run_main : θ_run defs (onTc (τ := τ) (main (F := F))) (s₀ m ρ)
    (fun r => (∀ c : Dev nD, r.2.mem ((c : Thread nD τ).loc main_arg0) = V₃ m c (Proc.devRef .tc main_arg0)
        ∧ r.2.mem ((c : Thread nD τ).loc main_arg1) = V₃ m c (Proc.devRef .tc main_arg1)
        ∧ r.2.mem ((c : Thread nD τ).loc main_arg2) = V₃ m c (Proc.devRef .tc main_arg2)
        ∧ r.2.mem ((c : Thread nD τ).loc main_v8) = V₃ m c (Proc.devRef .tc main_v8)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => .rfl, fun c => reg0_pre m c, fun c => reg0_post m c, fun c => ?_⟩
      show iprop(StableHlo.held (c : Thread nD τ) bufs (V₃ m c) ∗ R₁ (F := F) c)
        ⊢ iprop(Tₙ m c ∗ ∃ W, owes (c : Thread nD τ) (0 : CellTallies nD τ sig Unit) W)
      unfold R₁ Tₙ
      iintro ⟨Hh, Hb, HO⟩
      isplitr [HO]
      · isplitl [Hh] <;> iassumption
      · iexact HO)
    (hinit := init m ρ)
    (QY := fun c s => (s.mem ((c : Thread nD τ).loc main_arg0) = V₃ m c (Proc.devRef .tc main_arg0)
        ∧ s.mem ((c : Thread nD τ).loc main_arg1) = V₃ m c (Proc.devRef .tc main_arg1)
        ∧ s.mem ((c : Thread nD τ).loc main_arg2) = V₃ m c (Proc.devRef .tc main_arg2)
        ∧ s.mem ((c : Thread nD τ).loc main_v8) = V₃ m c (Proc.devRef .tc main_v8))
      ∧ s.sem (barCell c) = 0)
    (hfin := fun c s' => by
      unfold Tₙ Yk
      rw [StableHlo.held_sub_split (c.tc : Thread nD τ) four_sub (V₃ m c), held_four]
      iintro ⟨⟨⟨⟨H0, H1, H2, H8⟩, -⟩, Hb0⟩, HSI⟩
      icombine HSI H0 gives %h0
      icombine HSI H1 gives %h1
      icombine HSI H2 gives %h2
      icombine HSI H8 gives %h8
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h8⟩, by simpa using hb⟩
      iexact HSI)
    (hQ := fun s h hs => ⟨fun c => (h c).1, sem_eq_zero hs fun c sm hsm => by
        obtain rfl := unscoped_eq sm hsm
        exact (h c).2⟩)

end Cert.KernelIdeal.Pair

end
-- ==== Proof.Frames.lean ====
/- The frame claims of the two kernels, from the one run. -/
module

public import proofs.«01_k».proof.Defs
public import proofs.«01_k».proof.Proof.Main
public import proofs.«01_k».proof.Proof.Gen.Kernel

@[expose] public section

noncomputable section

namespace Cert.KernelIdeal.Pair

open Idealize.ShloMosaic Idealize.ShloMosaic.TcCoe
open Idealize.SL.Sem Idealize.ShloMosaic.Tactic
open Cert.KernelIdeal.Gen

variable {F : FTy → Type} [FloatOps F]

variable (m : (ℓ : Loc nD τ sig) → Buf (Elt F) ℓ) (ρ : Dev nD → PrngReg)

/-- An array that neither the host code nor the region writes ends as it began. -/
theorem kept_arg (c : Dev nD) (r : Ref sig .tc) (h1 : ∀ op ∈ (hostOps0 : List (HloOp τ sig (Elt F))), Proc.devRef .tc r ∉ op.writes)
    (h2 : ∀ op ∈ (hostOps1 : List (HloOp τ sig (Elt F))), Proc.devRef .tc r ∉ op.writes) (h3 : r ≠ main_v7) :
    V₃ m c (Proc.devRef .tc r) = m ((c : Thread nD τ).loc r) := V₃_arg m c r h1 h2 (StableHlo.devRef_ne_of_ne h3)

theorem off0 (r : Ref sig .tc) (h : r ∉ [main_v1, main_v2, main_v3, main_v4, main_v5, main_v6]) :
    ∀ op ∈ (hostOps0 : List (HloOp τ sig (Elt F))), Proc.devRef .tc r ∉ op.writes := by
  simp only [List.mem_cons, List.not_mem_nil, or_false, not_or] at h
  obtain ⟨h1, h2, h3, h4, h5, h6⟩ := h
  refine List.forall_iff_forall_mem.mp ?_
  simp only [hostOps0, List.Forall, StableHlo.unary_writes, StableHlo.reshape_writes, Finset.mem_singleton]
  exact ⟨StableHlo.devRef_ne_of_ne h1, StableHlo.devRef_ne_of_ne h2, StableHlo.devRef_ne_of_ne h3, StableHlo.devRef_ne_of_ne h4,
    StableHlo.devRef_ne_of_ne h5, StableHlo.devRef_ne_of_ne h6⟩
theorem off1 (r : Ref sig .tc) (h : r ≠ main_v8) : ∀ op ∈ (hostOps1 : List (HloOp τ sig (Elt F))), Proc.devRef .tc r ∉ op.writes := by
  refine List.forall_iff_forall_mem.mp ?_
  simp only [hostOps1, List.Forall, StableHlo.reshape_writes, Finset.mem_singleton]
  exact StableHlo.devRef_ne_of_ne h

theorem arg0_kept (c : Dev nD) : V₃ m c (Proc.devRef .tc main_arg0) = m ((c : Thread nD τ).loc main_arg0) :=
  kept_arg m c _ (off0 _ (by decide)) (off1 _ (by decide)) (by decide)
theorem arg1_kept (c : Dev nD) : V₃ m c (Proc.devRef .tc main_arg1) = m ((c : Thread nD τ).loc main_arg1) :=
  kept_arg m c _ (off0 _ (by decide)) (off1 _ (by decide)) (by decide)
theorem arg2_kept (c : Dev nD) : V₃ m c (Proc.devRef .tc main_arg2) = m ((c : Thread nD τ).loc main_arg2) :=
  kept_arg m c _ (off0 _ (by decide)) (off1 _ (by decide)) (by decide)

/-- The idealized kernel ends without fault, with its arguments unchanged and its semaphores at zero. -/
theorem frame_ideal : Cert.quiescent_KernelIdeal := fun m ρ _ => (θ_run Cert.KernelIdeal.defs _ _).mono
  (fun _ h => ⟨fun c => by
    obtain ⟨h0, h1, h2, -⟩ := h.1 c
    exact ⟨h0.trans (arg0_kept m c), h1.trans (arg1_kept m c), h2.trans (arg2_kept m c)⟩, h.2⟩) (run_main m ρ)

/-- The kernel and its idealization have the same text. -/
theorem defs_same : Cert.Kernel.defs (F := Bits) = Cert.KernelIdeal.defs (F := Bits) := by
  sl_kernel_rfl
theorem main_same : Cert.Kernel.main (F := Bits) = Cert.KernelIdeal.main (F := Bits) := by
  rfl

/-- The kernel ends without fault, with its arguments unchanged and its semaphores at zero. -/
theorem frame_kernel : Cert.quiescent_Kernel := fun m ρ _ => by
  rw [defs_same, main_same]
  exact (θ_run Cert.KernelIdeal.defs _ _).mono
    (fun _ h => ⟨fun c => by
      obtain ⟨h0, h1, h2, -⟩ := h.1 c
      exact ⟨h0.trans (arg0_kept m c), h1.trans (arg1_kept m c), h2.trans (arg2_kept m c)⟩, h.2⟩) (run_main (F := Bits) m ρ)

end Cert.KernelIdeal.Pair

end
-- ==== Proof.Soft.lean ====
/- Sums of extended reals weighted by exponentials: a quotient of two such sums does not change when every exponent is moved
   by one real number. -/
module

public import Idealize.ShloMosaic.PureOps.Ideal.Laws

@[expose] public section

noncomputable section

namespace Cert.KernelIdeal.Pair

open Idealize.ShloMosaic

theorem sum_real {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem real_mul_sum {ι : Type} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

theorem div_real (x : EReal) {y : ℝ} (hy : y ≠ 0) : Ideal.div x (y : EReal) = x * ((y⁻¹ : ℝ) : EReal) := by
  unfold Ideal.div
  rw [if_neg (by exact_mod_cast hy), EReal.coe_inv]

/-- The quotient of weighted sums, the exponents moved by `M` on the right and each weight divided first. -/
theorem quot_shift {ι : Type} [Fintype ι] [Nonempty ι] (s : ι → ℝ) (v : ι → EReal) (M : ℝ) :
    Ideal.div (∑ k, Ideal.exp (s k : EReal) * v k) (∑ k, Ideal.exp (s k : EReal))
      = ∑ k, v k * Ideal.div (Ideal.exp ((s k : EReal) - (M : EReal))) (0 + ∑ j, Ideal.exp ((s j : EReal) - (M : EReal))) := by
  have hL : 0 < ∑ j, Real.exp (s j) := Finset.sum_pos (fun j _ => Real.exp_pos _) Finset.univ_nonempty
  have hL' : 0 < ∑ j, Real.exp (s j - M) := Finset.sum_pos (fun j _ => Real.exp_pos _) Finset.univ_nonempty
  have e : ∀ k, Ideal.exp (s k : EReal) = ((Real.exp (s k) : ℝ) : EReal) := fun k => rfl
  have e' : ∀ k, Ideal.exp ((s k : EReal) - (M : EReal)) = ((Real.exp (s k - M) : ℝ) : EReal) := fun k => by
    rw [← EReal.coe_sub]; rfl
  simp only [e, e', sum_real, zero_add]
  rw [div_real _ hL.ne', mul_comm, real_mul_sum _ (inv_nonneg.mpr hL.le)]
  refine Finset.sum_congr rfl fun k _ => ?_
  rw [div_real _ hL'.ne', ← EReal.coe_mul, ← mul_assoc, ← EReal.coe_mul, mul_comm]
  congr 2
  have hs : ∑ j, Real.exp (s j - M) = (∑ j, Real.exp (s j)) * Real.exp (-M) := by
    rw [Finset.sum_mul]
    exact Finset.sum_congr rfl fun j _ => by rw [← Real.exp_add, sub_eq_add_neg]
  have hk : Real.exp (s k - M) = Real.exp (s k) * Real.exp (-M) := by rw [← Real.exp_add, sub_eq_add_neg]
  have hM := (Real.exp_pos (-M)).ne'
  rw [hs, hk, mul_inv, mul_comm ((∑ j, Real.exp (s j))⁻¹)]
  rw [mul_assoc, mul_comm (Real.exp (-M)), mul_assoc, inv_mul_cancel₀ hM, mul_one]

/-- The largest of finitely many real numbers, at least one of them, is real. -/
theorem fold_max_real {ι : Type} [Fintype ι] [Nonempty ι] (s : ι → ℝ) :
    ∃ M : ℝ, (Finset.univ : Finset ι).fold max (⊥ : EReal) (fun k => (s k : EReal)) = (M : EReal) := by
  classical
  have h : ∀ t : Finset ι, t.Nonempty → ∃ M : ℝ, t.fold max (⊥ : EReal) (fun k => (s k : EReal)) = (M : EReal) := by
    intro t ht
    induction ht using Finset.Nonempty.cons_induction with
    | singleton a => exact ⟨s a, by simp⟩
    | cons a t ha ht ih =>
      obtain ⟨M, hM⟩ := ih
      exact ⟨max (s a) M, by rw [Finset.fold_cons, hM]; exact (EReal.coe_strictMono.monotone.map_max).symm⟩
  exact h _ Finset.univ_nonempty

/-- A sum over `Fin (m + m)` by its two halves, in either order. -/
theorem sum_halves {M : Type} [AddCommMonoid M] (m n : ℕ) (hn : n = m + m) (f : Fin n → M) (x : ℕ) (hx : x < 2) :
    ∑ k, f k = ∑ k : Fin m, f ⟨x * m + k, by have := k.2; rcases (show x = 0 ∨ x = 1 by omega) with e | e <;> subst e <;> omega⟩
      + ∑ k : Fin m, f ⟨(1 - x) * m + k, by have := k.2; rcases (show x = 0 ∨ x = 1 by omega) with e | e <;> subst e <;> omega⟩ := by
  subst hn
  rw [Fin.sum_univ_add]
  rcases (show x = 0 ∨ x = 1 by omega) with e | e <;> subst e
  · congr 1 <;> refine Finset.sum_congr rfl fun k _ => congrArg f (Fin.ext ?_)
    · show (k : ℕ) = 0 * m + k; omega
    · show m + (k : ℕ) = (1 - 0) * m + k; omega
  · rw [add_comm]
    congr 1 <;> refine Finset.sum_congr rfl fun k _ => congrArg f (Fin.ext ?_)
    · show m + (k : ℕ) = 1 * m + k; omega
    · show (k : ℕ) = (1 - 1) * m + k; omega

end Cert.KernelIdeal.Pair

end
-- ==== Proof.Read.lean ====
/- What one device's result holds at an index, over the extended reals: the quotient of two sums over its own keys and the
   other device's. -/
module

public import proofs.«01_k».proof.Proof.Heads
public import proofs.«01_k».proof.Proof.Soft
public import Idealize.ShloMosaic.Lib.MatmulPlain
public import Idealize.ShloMosaic.Lib.ValueLayoutCasts
public import Idealize.ShloMosaic.Lib.IdealHost

@[expose] public section

noncomputable section

namespace Cert.KernelIdeal.Pair

open Idealize.ShloMosaic Idealize.ShloMosaic.ValueIdx
open Facts₀ Facts

/-- The scale of the scores. -/
def c8 : EReal := Ideal.ofBits .f32 0x3E000000#32
theorem c8_eq : c8 = ((1 / 8 : ℝ) : EReal) := by
  unfold c8; simp [Ideal.ofBits, Ideal.ieee, -EReal.coe_mul]; norm_num

/-! ## A head block's payloads at an index -/

section Payloads

variable (q k v : Vec Ideal S1x256x64 .bf16) (kc vc : Vec Ideal S1x128x64 .bf16)

/-- The exponential of one query's scaled product with one key. -/
def e1 {a b : ℕ} (q : (⟨3, ![1, a, 64]⟩ : Shape).Idx → EReal) (k : (⟨3, ![1, b, 64]⟩ : Shape).Idx → EReal) (i : Fin a) (j : Fin b) : EReal :=
  Ideal.exp ((∑ x : Fin 64, q (ix3 (0 : Fin 1) i x) * k (ix3 (0 : Fin 1) j x)) * c8)

theorem expo_at (i j : Fin 256) : expo q k (ix2 i j) = e1 (a := 256) (b := 256) q k i j := by
  have h := Ideal.matmul_transposedRhs_apply (M := 256) (K := 64) (N := 256) (φ₁ := .bf16) (φ₂ := .bf16) none
    (shapeCast S256x64 q shapeCasts_S1x256x64_S256x64) (shapeCast S256x64 k shapeCasts_S1x256x64_S256x64)
    (constant S256x256 .f32 0x00000000#32) i j
  rw [show (constant S256x256 .f32 0x00000000#32 : FVec Ideal S256x256 .f32) (ix2 i j) = 0 from Ideal.ofBits_zero_f32, zero_add] at h
  refine congrArg (fun z : EReal => Ideal.exp (z * c8)) (h.trans (Finset.sum_congr rfl fun x _ => ?_))
  rw [shapeCast_1ab_ab_apply, shapeCast_1ab_ab_apply]

theorem expoC_at (i : Fin 256) (j : Fin 128) : expoC q kc (ix2 i j) = e1 (a := 256) (b := 128) q kc i j := by
  have h := Ideal.matmul_transposedRhs_apply (M := 256) (K := 64) (N := 128) (φ₁ := .bf16) (φ₂ := .bf16) none
    (shapeCast S256x64 q shapeCasts_S1x256x64_S256x64) (shapeCast S128x64 kc shapeCasts_S1x128x64_S128x64)
    (constant S256x128 .f32 0x00000000#32) i j
  rw [show (constant S256x128 .f32 0x00000000#32 : FVec Ideal S256x128 .f32) (ix2 i j) = 0 from Ideal.ofBits_zero_f32, zero_add] at h
  refine congrArg (fun z : EReal => Ideal.exp (z * c8)) (h.trans (Finset.sum_congr rfl fun x _ => ?_))
  rw [shapeCast_1ab_ab_apply, shapeCast_1ab_ab_apply]

theorem rsum_at (i : Fin 256) (u : Fin 1) : rsum q k (ix2 i u) = ∑ j : Fin 256, e1 (a := 256) (b := 256) q k i j := by
  refine (shapeCast_a_a1_apply (a := 256) _ _ i u).trans ((Ideal.multiReduction_add_single _ _ _ _ _ (ix1 i)).trans
    (Finset.sum_congr rfl fun j _ => ?_))
  exact (congrArg (expo q k) (funext fun a => match a with | ⟨0, _⟩ => rfl | ⟨1, _⟩ => rfl)).trans (expo_at q k i j)

theorem rsumC_at (i : Fin 256) (u : Fin 1) : rsumC q kc (ix2 i u) = ∑ j : Fin 128, e1 (a := 256) (b := 128) q kc i j := by
  refine (shapeCast_a_a1_apply (a := 256) _ _ i u).trans ((Ideal.multiReduction_add_single _ _ _ _ _ (ix1 i)).trans
    (Finset.sum_congr rfl fun j _ => ?_))
  exact (congrArg (expoC q kc) (funext fun a => match a with | ⟨0, _⟩ => rfl | ⟨1, _⟩ => rfl)).trans (expoC_at q kc i j)

theorem wsum_at (i : Fin 256) (d : Fin 64) :
    wsum q k v (ix2 i d) = ∑ j : Fin 256, e1 (a := 256) (b := 256) q k i j * (v (ix3 (0 : Fin 1) j d) : EReal) := by
  have h := Ideal.matmul_plain_apply (M := 256) (K := 256) (N := 64) (φ₁ := .bf16) (φ₂ := .bf16) none
    (truncf .bf16 (expo q k) bitsLt_bf16_f32) (shapeCast S256x64 v shapeCasts_S1x256x64_S256x64)
    (constant S256x64 .f32 0x00000000#32) i d
  rw [show (constant S256x64 .f32 0x00000000#32 : FVec Ideal S256x64 .f32) (ix2 i d) = 0 from Ideal.ofBits_zero_f32, zero_add] at h
  refine h.trans (Finset.sum_congr rfl fun j _ => ?_)
  rw [shapeCast_1ab_ab_apply, ← expo_at]
  rfl

theorem wsumC_at (i : Fin 256) (d : Fin 64) :
    wsumC q kc vc (ix2 i d) = ∑ j : Fin 128, e1 (a := 256) (b := 128) q kc i j * (vc (ix3 (0 : Fin 1) j d) : EReal) := by
  have h := Ideal.matmul_plain_apply (M := 256) (K := 128) (N := 64) (φ₁ := .bf16) (φ₂ := .bf16) none
    (truncf .bf16 (expoC q kc) bitsLt_bf16_f32) (shapeCast S128x64 vc shapeCasts_S1x128x64_S128x64)
    (constant S256x64 .f32 0x00000000#32) i d
  rw [show (constant S256x64 .f32 0x00000000#32 : FVec Ideal S256x64 .f32) (ix2 i d) = 0 from Ideal.ofBits_zero_f32, zero_add] at h
  refine h.trans (Finset.sum_congr rfl fun j _ => ?_)
  rw [shapeCast_1ab_ab_apply, ← expoC_at]
  rfl

theorem payL_at (i : Fin 256) (u w : Fin 1) : payL q k (ix3 u i w) = rsum q k (ix2 i w) :=
  shapeCast_ab_1ab_apply (a := 256) (b := 1) _ _ u i w
theorem payA_at (u : Fin 1) (i : Fin 256) (d : Fin 64) : payA q k v (ix3 u i d) = wsum q k v (ix2 i d) :=
  shapeCast_ab_1ab_apply (a := 256) (b := 64) _ _ u i d
theorem payA'_at (o0 : Vec Ideal S1x256x64 .f32) (u : Fin 1) (i : Fin 256) (d : Fin 64) :
    (payA' q kc vc o0 (ix3 u i d) : EReal) = o0 (ix3 (0 : Fin 1) i d) + wsumC q kc vc (ix2 i d) := by
  refine (shapeCast_ab_1ab_apply (a := 256) (b := 64) _ _ u i d).trans ?_
  exact congrArg (fun z : EReal => z + wsumC q kc vc (ix2 i d)) (shapeCast_1ab_ab_apply (a := 256) (b := 64) o0 _ i d)
theorem payL'_at (l0 : Vec Ideal S1x256x1 .f32) (u : Fin 1) (i : Fin 256) (w : Fin 1) :
    (payL' q kc l0 (ix3 u i w) : EReal) = l0 (ix3 (0 : Fin 1) i w) + rsumC q kc (ix2 i w) := by
  refine (shapeCast_ab_1ab_apply (a := 256) (b := 1) _ _ u i w).trans ?_
  exact congrArg (fun z : EReal => z + rsumC q kc (ix2 i w)) (shapeCast_1ab_ab_apply (a := 256) (b := 1) l0 _ i w)

theorem quot_at (o : FVec Ideal S256x64 .f32) (l : FVec Ideal S256x1 .f32) (o0 : Vec Ideal S1x256x64 .f32) (l0 : Vec Ideal S1x256x1 .f32)
    (u : Fin 1) (i : Fin 256) (d : Fin 64) :
    quot o l o0 l0 (ix3 u i d) = Ideal.div ((o0 (ix3 (0 : Fin 1) i d) : EReal) + o (ix2 i d))
      ((l0 (ix3 (0 : Fin 1) i (0 : Fin 1)) : EReal) + l (ix2 i (0 : Fin 1))) := by
  refine (shapeCast_ab_1ab_apply (a := 256) (b := 64) _ _ u i d).trans ?_
  have h1 := shapeCast_1ab_ab_apply (a := 256) (b := 64) o0 shapeCasts_S1x256x64_S256x64 i d
  have h2 : broadcastTo S256x64 (addf (shapeCast S256x1 l0 shapeCasts_S1x256x1_S256x1) l) broadcasts_S256x1_S256x64 (ix2 i d)
      = (addf (shapeCast S256x1 l0 shapeCasts_S1x256x1_S256x1) l : FVec Ideal S256x1 .f32) (ix2 i (0 : Fin 1)) :=
    broadcastTo_apply _ _ _ _ fun a => match a with | ⟨0, _⟩ => rfl | ⟨1, _⟩ => rfl
  have h3 := shapeCast_1ab_ab_apply (a := 256) (b := 1) l0 shapeCasts_S1x256x1_S256x1 i 0
  refine congrArg₂ Ideal.div (congrArg (fun z : EReal => z + o (ix2 i d)) h1) (h2.trans ?_)
  exact congrArg (fun z : EReal => z + l (ix2 i (0 : Fin 1))) h3

end Payloads

/-! ## The result at an index -/

section Result

/-- Head `h` of batch row `b` as a block number, and a lane of it. -/
def bk (b : Fin 4) (h : Fin 16) : Fin 64 := ⟨16 * b + h, by omega⟩
def lane (h : Fin 16) (d : Fin 64) : Fin 1024 := ⟨64 * h + d, by omega⟩

theorem rH_at (b : Fin 4) (h : Fin 16) (u : Fin 1) (i : Fin 256) (d : Fin 64) :
    (rH (bk b h)).idx (ix3 u i d) = ix3 b i (lane h d) := by
  have hb := b.2; have hh := h.2; have hu := u.2
  funext a; apply Fin.ext
  match a with
  | ⟨0, _⟩ => show (16 * (b : ℕ) + h) / 16 + 1 * (u : ℕ) = b; omega
  | ⟨1, _⟩ => show 0 + 1 * (i : ℕ) = i; omega
  | ⟨2, _⟩ => show 64 * ((16 * (b : ℕ) + h) % 16) + 1 * (d : ℕ) = 64 * h + d; omega

theorem rL_at (b : Fin 4) (h : Fin 16) (u : Fin 1) (i : Fin 256) (w : Fin 1) :
    (rL (bk b h)).idx (ix3 u i w) = ix3 b i h := by
  have hb := b.2; have hh := h.2; have hu := u.2; have hw := w.2
  funext a; apply Fin.ext
  match a with
  | ⟨0, _⟩ => show (16 * (b : ℕ) + h) / 16 + 1 * (u : ℕ) = b; omega
  | ⟨1, _⟩ => show 0 + 1 * (i : ℕ) = i; omega
  | ⟨2, _⟩ => show (16 * (b : ℕ) + h) % 16 + 1 * (w : ℕ) = h; omega

/-- Key `k` of half `j`. -/
def halfKey (j : Fin 2) (k : Fin 128) : Fin 256 := ⟨128 * j + k, by omega⟩
theorem rC_at (j : Fin 2) (h : Fin 16) (u : Fin 1) (k : Fin 128) (d : Fin 64) :
    (rC j h).idx (ix3 u k d) = ix3 (3 : Fin 4) (halfKey j k) (lane h d) := by
  have hu := u.2
  funext a; apply Fin.ext
  match a with
  | ⟨0, _⟩ => show 3 + 1 * (u : ℕ) = 3; omega
  | ⟨1, _⟩ => show 128 * (j : ℕ) + 1 * (k : ℕ) = 128 * j + k; omega
  | ⟨2, _⟩ => show 64 * (h : ℕ) + 1 * (d : ℕ) = 64 * h + d; omega

variable (Q K V KP VP : Wide Ideal .bf16)

/-- The exponential of query `i`'s scaled product with key `j`, at one head of one batch row. -/
def ek (Q K : S4x256x1024.Idx → EReal) (b : Fin 4) (h : Fin 16) (i j : Fin 256) : EReal :=
  Ideal.exp ((∑ x : Fin 64, Q (ix3 b i (lane h x)) * K (ix3 b j (lane h x))) * c8)

theorem e1_H (b : Fin 4) (h : Fin 16) (i j : Fin 256) :
    e1 (a := 256) (b := 256) (bH Q (bk b h)) (bH K (bk b h)) i j = ek Q K b h i j := by
  refine congrArg (fun z : EReal => Ideal.exp (z * c8)) (Finset.sum_congr rfl fun x _ => ?_)
  exact congrArg₂ (fun y z : EReal => y * z) (congrArg Q (rH_at b h 0 i x)) (congrArg K (rH_at b h 0 j x))
theorem e1_C (h : Fin 16) (i : Fin 256) (p : Fin 2) (j : Fin 128) :
    e1 (a := 256) (b := 128) (bH Q (bk 3 h)) (bC KP p h) i j = ek Q KP 3 h i (halfKey p j) := by
  refine congrArg (fun z : EReal => Ideal.exp (z * c8)) (Finset.sum_congr rfl fun x _ => ?_)
  exact congrArg₂ (fun y z : EReal => y * z) (congrArg Q (rH_at 3 h 0 i x)) (congrArg KP (rC_at p h 0 j x))

theorem wsum_H (b : Fin 4) (h : Fin 16) (i : Fin 256) (d : Fin 64) :
    (wsum (bH Q (bk b h)) (bH K (bk b h)) (bH V (bk b h)) (ix2 i d) : EReal)
      = ∑ j : Fin 256, ek Q K b h i j * (V (ix3 b j (lane h d)) : EReal) := by
  refine (wsum_at _ _ _ i d).trans (Finset.sum_congr rfl fun j _ => ?_)
  exact congrArg₂ (fun y z : EReal => y * z) (e1_H Q K b h i j) (congrArg V (rH_at b h 0 j d))
theorem rsum_H (b : Fin 4) (h : Fin 16) (i : Fin 256) (u : Fin 1) :
    (rsum (bH Q (bk b h)) (bH K (bk b h)) (ix2 i u) : EReal) = ∑ j : Fin 256, ek Q K b h i j :=
  (rsum_at _ _ i u).trans (Finset.sum_congr rfl fun j _ => e1_H Q K b h i j)
theorem wsum_C (h : Fin 16) (i : Fin 256) (d : Fin 64) (p : Fin 2) :
    (wsumC (bH Q (bk 3 h)) (bC KP p h) (bC VP p h) (ix2 i d) : EReal)
      = ∑ j : Fin 128, ek Q KP 3 h i (halfKey p j) * (VP (ix3 (3 : Fin 4) (halfKey p j) (lane h d)) : EReal) := by
  refine (wsumC_at _ _ _ i d).trans (Finset.sum_congr rfl fun j _ => ?_)
  exact congrArg₂ (fun y z : EReal => y * z) (e1_C Q KP h i p j) (congrArg VP (rC_at p h 0 j d))
theorem rsum_C (h : Fin 16) (i : Fin 256) (u : Fin 1) (p : Fin 2) :
    (rsumC (bH Q (bk 3 h)) (bC KP p h) (ix2 i u) : EReal) = ∑ j : Fin 128, ek Q KP 3 h i (halfKey p j) :=
  (rsumC_at _ _ i u).trans (Finset.sum_congr rfl fun j _ => e1_C Q KP h i p j)

/-- The first phase's totals, read through their block. -/
theorem A0_at (b : Fin 4) (h : Fin 16) (i : Fin 256) (d : Fin 64) :
    (bH (A0 Q K V) (bk b h) (ix3 (0 : Fin 1) i d) : EReal) = ∑ j : Fin 256, ek Q K b h i j * (V (ix3 b j (lane h d)) : EReal) :=
  (TH.asm_idx (wA Q K V) (bk b h) (ix3 (0 : Fin 1) i d)).trans ((payA_at _ _ _ 0 i d).trans (wsum_H Q K V b h i d))
theorem L0_at (b : Fin 4) (h : Fin 16) (i : Fin 256) :
    (bL (L0 Q K) (bk b h) (ix3 (0 : Fin 1) i (0 : Fin 1)) : EReal) = ∑ j : Fin 256, ek Q K b h i j :=
  (TL.asm_idx (wL Q K) (bk b h) (ix3 (0 : Fin 1) i (0 : Fin 1))).trans ((payL_at _ _ i 0 0).trans (rsum_H Q K b h i 0))

theorem mix_in {s : Shape} {N : ℕ} {size : Fin s.rank → ℕ} {X : Type} (T : Tiling s N size) (lo hi : ℕ)
    (w : Fin N → (⟨s.rank, size⟩ : Shape).Idx → X) (f : s.Idx → X) (n : Fin N) (h : lo ≤ (n : ℕ) ∧ (n : ℕ) < hi)
    (j : (T.rect n).shape.Idx) : T.mix lo hi w f ((T.rect n).idx j) = w n j := by
  unfold Tiling.mix; rw [T.code_idx n j, T.place_idx n j]; exact if_pos h

theorem hd_bk (b : Fin 4) (h : Fin 16) : hd (bk b h) = h := Fin.ext (by have := h.2; show (16 * (b : ℕ) + h) % 16 = h; omega)

/-- And the third phase's, on the last batch row. -/
theorem A1_at (h : Fin 16) (i : Fin 256) (d : Fin 64) :
    (bH (A1 Q K V KP VP) (bk 3 h) (ix3 (0 : Fin 1) i d) : EReal)
      = ∑ j : Fin 256, ek Q K 3 h i j * (V (ix3 (3 : Fin 4) j (lane h d)) : EReal)
        + ∑ j : Fin 128, ek Q KP 3 h i (halfKey 0 j) * (VP (ix3 (3 : Fin 4) (halfKey 0 j) (lane h d)) : EReal) := by
  have hh := h.2
  refine (mix_in TH 48 64 (wC Q K V KP VP) (A0 Q K V) (bk 3 h) ⟨by show 48 ≤ 16 * 3 + (h : ℕ); omega, by show 16 * 3 + (h : ℕ) < 64; omega⟩
    (ix3 (0 : Fin 1) i d)).trans ?_
  unfold wC
  rw [hd_bk]
  exact (payA'_at _ _ _ _ 0 i d).trans (congrArg₂ (fun y z : EReal => y + z) (A0_at Q K V 3 h i d) (wsum_C Q KP VP h i d 0))
theorem L1_at (h : Fin 16) (i : Fin 256) :
    (bL (L1 Q K KP) (bk 3 h) (ix3 (0 : Fin 1) i (0 : Fin 1)) : EReal)
      = ∑ j : Fin 256, ek Q K 3 h i j + ∑ j : Fin 128, ek Q KP 3 h i (halfKey 0 j) := by
  have hh := h.2
  refine (mix_in TL 48 64 (wCl Q K KP) (L0 Q K) (bk 3 h) ⟨by show 48 ≤ 16 * 3 + (h : ℕ); omega, by show 16 * 3 + (h : ℕ) < 64; omega⟩
    (ix3 (0 : Fin 1) i (0 : Fin 1))).trans ?_
  unfold wCl
  rw [hd_bk]
  exact (payL'_at _ _ _ 0 i 0).trans (congrArg₂ (fun y z : EReal => y + z) (L0_at Q K 3 h i) (rsum_C Q KP h i 0 0))

theorem sum_half (f : Fin 256 → EReal) : ∑ j : Fin 128, f (halfKey 0 j) + ∑ j : Fin 128, f (halfKey 1 j) = ∑ j, f j := by
  rw [sum_halves 128 256 rfl f 0 (by omega)]
  congr 1 <;> refine Finset.sum_congr rfl fun k _ => congrArg f (Fin.ext ?_)

/-- The kernel's result on one device. -/
theorem OUT_at (b : Fin 4) (i : Fin 256) (h : Fin 16) (d : Fin 64) :
    (OUT Q K V KP VP (ix3 b i (lane h d)) : EReal)
      = Ideal.div (∑ j : Fin 256, ek Q K b h i j * (V (ix3 b j (lane h d)) : EReal)
            + ∑ j : Fin 256, ek Q KP b h i j * (VP (ix3 b j (lane h d)) : EReal))
          (∑ j : Fin 256, ek Q K b h i j + ∑ j : Fin 256, ek Q KP b h i j) := by
  have hb := b.2; have hh := h.2
  rw [← rH_at b h 0 i d]
  refine (TH.asm_idx (wOut Q K V KP VP) (bk b h) (ix3 (0 : Fin 1) i d)).trans ?_
  unfold wOut
  by_cases hlt : (b : ℕ) < 3
  · rw [if_pos (show (bk b h : ℕ) < 48 by show 16 * (b : ℕ) + h < 48; omega)]
    unfold wB
    exact (quot_at _ _ _ _ 0 i d).trans (congrArg₂ Ideal.div
      (congrArg₂ (fun y z : EReal => y + z) (A0_at Q K V b h i d) (wsum_H Q KP VP b h i d))
      (congrArg₂ (fun y z : EReal => y + z) (L0_at Q K b h i) (rsum_H Q KP b h i 0)))
  · obtain rfl : b = 3 := Fin.ext (by show (b : ℕ) = 3; omega)
    rw [if_neg (show ¬ (bk 3 h : ℕ) < 48 by show ¬ 16 * 3 + (h : ℕ) < 48; omega)]
    unfold wD
    rw [hd_bk]
    refine (quot_at _ _ _ _ 0 i d).trans ((congrArg₂ Ideal.div
      (congrArg₂ (fun y z : EReal => y + z) (A1_at Q K V KP VP h i d) (wsum_C Q KP VP h i d 1))
      (congrArg₂ (fun y z : EReal => y + z) (L1_at Q K KP h i) (rsum_C Q KP h i 0 1))).trans ?_)
    rw [add_assoc, add_assoc, sum_half (fun j => ek Q KP 3 h i j * (VP (ix3 (3 : Fin 4) j (lane h d)) : EReal)), sum_half (fun j => ek Q KP 3 h i j)]

end Result

end Cert.KernelIdeal.Pair

end
-- ==== Proof.Ref.lean ====
/- The reference's run and its result at an index, over the extended reals. -/
module

public import proofs.«01_k».proof.Defs
public import proofs.«01_k».proof.Proof.Gen.ReferenceIdeal.Run
public import proofs.«01_k».proof.Proof.Soft
public import Idealize.ShloMosaic.Lib.MatmulPlain
public import Idealize.ShloMosaic.Lib.ValueLayoutCasts
public import Idealize.ShloMosaic.Lib.IdealHost
public import Idealize.ShloMosaic.Lib.KernelVsHost
public import Idealize.ShloMosaic.Lib.Quiescent

@[expose] public section

noncomputable section

namespace Cert.ReferenceIdeal.Soft

open Cert.ReferenceIdeal Cert.ReferenceIdeal.Gen Idealize.ShloMosaic Idealize.ShloMosaic.TcCoe Idealize.ShloMosaic.ValueIdx Idealize.SL.Sem

/-- One array of the reference. -/
abbrev Arr : Type := FVec Ideal S4x512x16x64 .f32

variable (Q K V : Arr)

/-! ## The reference's operations, named -/

def scores : FVec Ideal S4x16x512x512 .f32 :=
  mulf (Host.dotGeneral dot_S4x512x16x64_S4x512x16x64_S4x16x512x512_3_3_1_1_02_02 none Q K)
    (broadcastInDim S4x16x512x512 ![] bcast_S_S4x16x512x512 (constant S_ .f32 0x3E000000#32))
def spread (x : FVec Ideal S4x16x512 .f32) : FVec Ideal S4x16x512x512 .f32 :=
  broadcastInDim S4x16x512x512 ![0, 1, 2, 3] bcast_S4x16x512x1_S4x16x512x512_0_1_2_3
    (broadcastInDim S4x16x512x1 ![0, 1, 2] bcast_S4x16x512_S4x16x512x1_0_1_2 x)
def top : FVec Ideal S4x16x512 .f32 :=
  Host.reduce FloatOps.maximumf (scores Q K) (constant S_ .f32 0xFF800000#32) reducesTo_S4x16x512x512_S4x16x512_d3 h_S_
def weights : FVec Ideal S4x16x512x512 .f32 := Host.exp (subf (scores Q K) (spread (top Q K)))
def total : FVec Ideal S4x16x512 .f32 :=
  Host.reduceAdd (weights Q K) (constant S_ .f32 0x00000000#32) reducesTo_S4x16x512x512_S4x16x512_d3 h_S_
def probs : FVec Ideal S4x16x512x512 .f32 := Host.divf (weights Q K) (spread (total Q K))
def result : FVec Ideal S4x512x16x64 .bf16 :=
  truncf .bf16 (transpose S4x512x16x64 [0, 3, 1, 2]
    (Host.dotGeneral dot_S4x512x16x64_S4x16x512x512_S4x16x64x512_1_3_3_2_02_01 none V (probs Q K))
    transposes_S4x16x64x512_S4x512x16x64_0_3_1_2) bitsLt_bf16_f32

/-! ## Each at an index -/

/-- The score of query `q` and key `k`. -/
def sc (b : Fin 4) (h : Fin 16) (q k : Fin 512) : EReal :=
  (∑ x : Fin 64, (Q (ix4 b q h x) : EReal) * (K (ix4 b k h x) : EReal)) * Ideal.ofBits .f32 0x3E000000#32

theorem scores_at (b : Fin 4) (h : Fin 16) (q k : Fin 512) : scores Q K (ix4 b h q k) = sc Q K b h q k := by
  refine congrArg₂ (fun y z : EReal => y * z) ?_ (broadcastInDim_scalar_apply _ _ _)
  let D := dot_S4x512x16x64_S4x512x16x64_S4x16x512x512_3_3_1_1_02_02
  have hr : D.contr.rank = 1 := rfl
  have hs : D.contr.size ⟨0, by rw [hr]; exact Nat.one_pos⟩ = 64 := rfl
  refine (Ideal.dotGeneral_apply D none _ Q K (ix4 b h q k)).trans ?_
  rw [← Equiv.sum_comp (contrEquiv1 D 64 hr hs).symm]
  refine Finset.sum_congr rfl fun x _ => ?_
  have hk := contrEquiv1_symm_val D 64 hr hs x
  have el : D.lhsIdx (ix4 b h q k) ((contrEquiv1 D 64 hr hs).symm x) = ix4 b q h x := by
    funext a; apply Fin.ext
    match a with
    | ⟨0, _⟩ => rfl
    | ⟨1, _⟩ => rfl
    | ⟨2, _⟩ => rfl
    | ⟨3, _⟩ => exact hk
  have er : D.rhsIdx (ix4 b h q k) ((contrEquiv1 D 64 hr hs).symm x) = ix4 b k h x := by
    funext a; apply Fin.ext
    match a with
    | ⟨0, _⟩ => rfl
    | ⟨1, _⟩ => rfl
    | ⟨2, _⟩ => rfl
    | ⟨3, _⟩ => exact hk
  rw [el, er]

theorem spread_at (x : FVec Ideal S4x16x512 .f32) (b : Fin 4) (h : Fin 16) (q k : Fin 512) :
    spread x (ix4 b h q k) = x (ix3 b h q) :=
  (broadcastInDim_apply _ _ _ (ix4 b h q k) (ix4 b h q (0 : Fin 1))
    fun a => match a with | ⟨0, _⟩ => rfl | ⟨1, _⟩ => rfl | ⟨2, _⟩ => rfl | ⟨3, _⟩ => rfl).trans
  (broadcastInDim_apply _ _ _ (ix4 b h q (0 : Fin 1)) (ix3 b h q)
    fun a => match a with | ⟨0, _⟩ => rfl | ⟨1, _⟩ => rfl | ⟨2, _⟩ => rfl)

theorem red : S4x16x512x512.Reduces [3] S4x16x512 := by decide
theorem lift_at (b : Fin 4) (h : Fin 16) (q k : Fin 512) : red.lift (ix3 b h q) k = ix4 b h q k :=
  funext fun a => match a with | ⟨0, _⟩ => rfl | ⟨1, _⟩ => rfl | ⟨2, _⟩ => rfl | ⟨3, _⟩ => rfl

theorem top_at (b : Fin 4) (h : Fin 16) (q : Fin 512) :
    (top Q K (ix3 b h q) : EReal) = (Finset.univ : Finset (Fin 512)).fold max (⊥ : EReal) (sc Q K b h q) := by
  have h1 := congrFun (hostReduce_maximumf_eq_multiReduction (u := S_) (scores Q K) 0xFF800000#32
    reducesTo_S4x16x512x512_S4x16x512_d3 h_S_ red (.inl rfl) rfl) (ix3 b h q)
  have h2 := Ideal.multiReduction_maximumf_single (scores Q K) 0xFF800000#32 red (.inl rfl) rfl (ix3 b h q)
  refine h1.trans (h2.trans ?_)
  have hb : Ideal.ofBits .f32 0xFF800000#32 = (⊥ : EReal) := by simp [Ideal.ofBits, Ideal.ieee]
  rw [← hb]
  exact congrArg ((Finset.univ : Finset (Fin 512)).fold max (Ideal.ofBits .f32 0xFF800000#32)) (funext fun k =>
    (congrArg (scores Q K) (lift_at b h q k)).trans (scores_at Q K b h q k))

theorem weights_at (b : Fin 4) (h : Fin 16) (q k : Fin 512) :
    (weights Q K (ix4 b h q k) : EReal) = Ideal.exp (sc Q K b h q k - (top Q K (ix3 b h q) : EReal)) := by
  refine congrArg Ideal.exp (congrArg₂ (fun y z : EReal => y - z) (scores_at Q K b h q k) (spread_at _ b h q k))

theorem total_at (b : Fin 4) (h : Fin 16) (q : Fin 512) :
    (total Q K (ix3 b h q) : EReal) = 0 + ∑ k : Fin 512, Ideal.exp (sc Q K b h q k - (top Q K (ix3 b h q) : EReal)) := by
  refine (Ideal.hostReduceAdd_single reducesTo_S4x16x512x512_S4x16x512_d3 red (weights Q K) _ (ix3 b h q)).trans ?_
  refine congrArg₂ (fun y z : EReal => y + z) Ideal.ofBits_zero_f32 (Finset.sum_congr rfl fun k _ => ?_)
  exact (congrArg (weights Q K) (lift_at b h q k)).trans (weights_at Q K b h q k)

theorem probs_at (b : Fin 4) (h : Fin 16) (q k : Fin 512) :
    (probs Q K (ix4 b h q k) : EReal) = Ideal.div (Ideal.exp (sc Q K b h q k - (top Q K (ix3 b h q) : EReal)))
      (0 + ∑ j : Fin 512, Ideal.exp (sc Q K b h q j - (top Q K (ix3 b h q) : EReal))) :=
  congrArg₂ Ideal.div (weights_at Q K b h q k) ((spread_at _ b h q k).trans (total_at Q K b h q))

theorem result_at (b : Fin 4) (q : Fin 512) (h : Fin 16) (d : Fin 64) :
    (result Q K V (ix4 b q h d) : EReal) = ∑ k : Fin 512, (V (ix4 b k h d) : EReal)
      * Ideal.div (Ideal.exp (sc Q K b h q k - (top Q K (ix3 b h q) : EReal)))
          (0 + ∑ j : Fin 512, Ideal.exp (sc Q K b h q j - (top Q K (ix3 b h q) : EReal))) := by
  refine (transpose_apply [0, 3, 1, 2] (Host.dotGeneral dot_S4x512x16x64_S4x16x512x512_S4x16x64x512_1_3_3_2_02_01 none V (probs Q K))
    transposes_S4x16x64x512_S4x512x16x64_0_3_1_2 (ix4 b q h d) (ix4 b h d q)
    fun a => match a with | ⟨0, _⟩ => rfl | ⟨1, _⟩ => rfl | ⟨2, _⟩ => rfl | ⟨3, _⟩ => rfl).trans ?_
  let D := dot_S4x512x16x64_S4x16x512x512_S4x16x64x512_1_3_3_2_02_01
  have hr : D.contr.rank = 1 := rfl
  have hs : D.contr.size ⟨0, by rw [hr]; exact Nat.one_pos⟩ = 512 := rfl
  refine (Ideal.dotGeneral_apply D none _ V (probs Q K) (ix4 b h d q)).trans ?_
  rw [← Equiv.sum_comp (contrEquiv1 D 512 hr hs).symm]
  refine Finset.sum_congr rfl fun k _ => ?_
  have hk := contrEquiv1_symm_val D 512 hr hs k
  have el : D.lhsIdx (ix4 b h d q) ((contrEquiv1 D 512 hr hs).symm k) = ix4 b k h d := by
    funext a; apply Fin.ext
    match a with
    | ⟨0, _⟩ => rfl
    | ⟨1, _⟩ => exact hk
    | ⟨2, _⟩ => rfl
    | ⟨3, _⟩ => rfl
  have er : D.rhsIdx (ix4 b h d q) ((contrEquiv1 D 512 hr hs).symm k) = ix4 b h q k := by
    funext a; apply Fin.ext
    match a with
    | ⟨0, _⟩ => rfl
    | ⟨1, _⟩ => rfl
    | ⟨2, _⟩ => rfl
    | ⟨3, _⟩ => exact hk
  rw [el, er, probs_at]

/-- With real scores, the reference's result is the quotient of two sums, no maximum taken off. -/
theorem result_quot (b : Fin 4) (q : Fin 512) (h : Fin 16) (d : Fin 64) (s : Fin 512 → ℝ)
    (hs : ∀ k, sc Q K b h q k = (s k : EReal)) :
    (result Q K V (ix4 b q h d) : EReal) = Ideal.div (∑ k : Fin 512, Ideal.exp (sc Q K b h q k) * (V (ix4 b k h d) : EReal))
      (∑ k : Fin 512, Ideal.exp (sc Q K b h q k)) := by
  obtain ⟨M, hM⟩ := Cert.KernelIdeal.Pair.fold_max_real s
  have ht : (top Q K (ix3 b h q) : EReal) = (M : EReal) := by
    rw [top_at, ← hM]; exact congrArg (fun f => (Finset.univ : Finset (Fin 512)).fold max (⊥ : EReal) f) (funext hs)
  rw [result_at, ht]
  simp only [hs]
  exact (Cert.KernelIdeal.Pair.quot_shift s (fun k => (V (ix4 b k h d) : EReal)) M).symm

/-! ## The run -/

theorem run_result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14) = result (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

theorem frame : Cert.quiescent_ReferenceIdeal := fun m ρ _ =>
  (θ_run (defs (F := Ideal)) _ _).monotone (fun r hr => ⟨fun c => (hr c).2, sem_eq_zero_of_no_sems rfl r.2⟩) (run_result m ρ)

end Cert.ReferenceIdeal.Soft

end
-- ==== Proof.Value.lean ====
/- The value claim: each device's result is its block of the reference's, over the extended reals, when the queries and the keys
   are finite. -/
module

public import proofs.«01_k».proof.Proof.Frames
public import proofs.«01_k».proof.Proof.Read
public import proofs.«01_k».proof.Proof.Ref
public import Idealize.ShloMosaic.Lib.ReduceAll

@[expose] public section

noncomputable section

namespace Cert.KernelIdeal.Pair

open Idealize.ShloMosaic Idealize.ShloMosaic.TcCoe Idealize.ShloMosaic.ValueIdx
open Idealize.SL.Sem
open Cert.KernelIdeal.Gen

/-! ## The arrays around the region -/

section Around

variable (m : (ℓ : Loc nD τ sig) → Buf (Elt Ideal) ℓ) (c : Dev nD)

theorem fold_at {X : Type} (x : S4x256x16x64.Idx → X) (hc : S4x256x16x64.ShapeCasts S4x256x1024) (b : Fin 4) (q : Fin 256) (h : Fin 16) (d : Fin 64) :
    shapeCast S4x256x1024 x hc (ix3 b q (lane h d)) = x (ix4 b q h d) :=
  shapeCast_apply x hc _ _ (by
    rw [Shape.rowMajor_val_three, Shape.rowMajor_val_four]
    show (((b : ℕ) * 256 + q) * 16 + h) * 64 + d = ((b : ℕ) * 256 + q) * 1024 + (64 * h + d)
    omega)
theorem unfold_at {X : Type} (x : S4x256x1024.Idx → X) (hc : S4x256x1024.ShapeCasts S4x256x16x64) (b : Fin 4) (q : Fin 256) (h : Fin 16) (d : Fin 64) :
    shapeCast S4x256x16x64 x hc (ix4 b q h d) = x (ix3 b q (lane h d)) :=
  shapeCast_apply x hc _ _ (by
    rw [Shape.rowMajor_val_three, Shape.rowMajor_val_four]
    show ((b : ℕ) * 256 + q) * 1024 + (64 * h + d) = (((b : ℕ) * 256 + q) * 16 + h) * 64 + d
    omega)

theorem v2_eq : V₁ m c (Proc.devRef .tc main_v2) = shapeCast S4x256x1024 (m ((c : Thread nD τ).loc main_arg0)) shapeCasts_S4x256x16x64_S4x256x1024 := by
  unfold V₁; after_results; rfl
theorem v4_eq : V₁ m c (Proc.devRef .tc main_v4) = shapeCast S4x256x1024 (m ((c : Thread nD τ).loc main_arg1)) shapeCasts_S4x256x16x64_S4x256x1024 := by
  unfold V₁; after_results; rfl
theorem v6_eq : V₁ m c (Proc.devRef .tc main_v6) = shapeCast S4x256x1024 (m ((c : Thread nD τ).loc main_arg2)) shapeCasts_S4x256x16x64_S4x256x1024 := by
  unfold V₁; after_results; rfl
theorem v8_eq : V₃ m c (Proc.devRef .tc main_v8) = shapeCast S4x256x16x64 ((insOf m).out c) shapeCasts_S4x256x1024_S4x256x16x64 := by
  rw [← V₂_out m c]; unfold V₃; after_results; rfl

/-- A window's one block is its whole array. -/
theorem read_0 (f : S4x256x1024.Idx → Elt Ideal .bf16) : (win0_0.blk t0_0).view.read (Elt Ideal) f = f := by
  funext i
  refine congrArg f (funext fun a => Fin.ext ?_)
  match a with
  | ⟨0, _⟩ => show 0 * 4 + 1 * (i 0 : ℕ) = i 0; omega
  | ⟨1, _⟩ => show 0 * 256 + 1 * (i 1 : ℕ) = i 1; omega
  | ⟨2, _⟩ => show 0 * 1024 + 1 * (i 2 : ℕ) = i 2; omega
theorem read_1 (f : S4x256x1024.Idx → Elt Ideal .bf16) : (win0_1.blk t0_0).view.read (Elt Ideal) f = f := read_0 f
theorem read_2 (f : S4x256x1024.Idx → Elt Ideal .bf16) : (win0_2.blk t0_0).view.read (Elt Ideal) f = f := read_0 f

theorem Q_at (b : Fin 4) (q : Fin 256) (h : Fin 16) (d : Fin 64) :
    (insOf m).Q c (ix3 b q (lane h d)) = m ((c : Thread nD τ).loc main_arg0) (ix4 b q h d) :=
  (congrFun ((read_0 _).trans (v2_eq m c)) _).trans (fold_at _ _ b q h d)
theorem K_at (b : Fin 4) (q : Fin 256) (h : Fin 16) (d : Fin 64) :
    (insOf m).K c (ix3 b q (lane h d)) = m ((c : Thread nD τ).loc main_arg1) (ix4 b q h d) :=
  (congrFun ((read_1 _).trans (v4_eq m c)) _).trans (fold_at _ _ b q h d)
theorem V_at (b : Fin 4) (q : Fin 256) (h : Fin 16) (d : Fin 64) :
    (insOf m).V c (ix3 b q (lane h d)) = m ((c : Thread nD τ).loc main_arg2) (ix4 b q h d) :=
  (congrFun ((read_2 _).trans (v6_eq m c)) _).trans (fold_at _ _ b q h d)
theorem out_at (b : Fin 4) (q : Fin 256) (h : Fin 16) (d : Fin 64) :
    V₃ m c (Proc.devRef .tc main_v8) (ix4 b q h d) = (insOf m).out c (ix3 b q (lane h d)) :=
  (congrFun (v8_eq m c) _).trans (unfold_at _ _ b q h d)

end Around

/-! ## A device's block -/

theorem dev_lt (c : Dev nD) : (c : ℕ) < 32 := c.isLt
/-- Row `q` of device `c`'s block, in the whole array. -/
def wrow (c : Dev nD) (q : Fin 256) : Fin 512 := ⟨(c : ℕ) / 16 * 256 + q, by have := dev_lt c; omega⟩

theorem row_onto (r : Fin 512) : ∃ (c : Dev nD) (q : Fin 256), r = wrow c q :=
  ⟨⟨16 * ((r : ℕ) / 256), by show _ < 32; omega⟩, ⟨(r : ℕ) % 256, by omega⟩, Fin.ext (by
    show (r : ℕ) = 16 * ((r : ℕ) / 256) / 16 * 256 + (r : ℕ) % 256; omega)⟩

/-- Device `c`'s block of a whole array. -/
abbrev cut (c : Dev nD) {X : Type} (v : (⟨4, ![4, 512, 16, 64]⟩ : Shape).Idx → X) : (⟨4, ![4, 256, 16, 64]⟩ : Shape).Idx → X :=
  Layout.blockN ⟨4, ![4, 256, 16, 64]⟩ ⟨4, ![4, 512, 16, 64]⟩ (Layout.meshBlock [2, 4, 4] ![[], [0], [], []] c) v

theorem cut_at (c : Dev nD) {X : Type} (v : (⟨4, ![4, 512, 16, 64]⟩ : Shape).Idx → X) (b : Fin 4) (q : Fin 256) (h : Fin 16) (d : Fin 64) :
    cut c v (ix4 b q h d) = v (ix4 b (wrow c q) h d) := by
  have hc := dev_lt c
  refine congrArg v (funext fun a => Fin.ext ?_)
  match a with
  | ⟨0, _⟩ => show 0 * 4 + (b : ℕ) = b; omega
  | ⟨1, _⟩ => show ((c : ℕ) / 16 % 2 * 1 + 0) * 256 + (q : ℕ) = (c : ℕ) / 16 * 256 + q; omega
  | ⟨2, _⟩ => show 0 * 16 + (h : ℕ) = h; omega
  | ⟨3, _⟩ => show 0 * 64 + (d : ℕ) = d; omega

/-- The peer holds the other half of the rows. -/
theorem other_block : ∀ c : Dev nD, (pr c : ℕ) / 16 = 1 - (c : ℕ) / 16 := by decide

/-- A sum over a device's rows and its peer's is the sum over all rows. -/
theorem sum_rows (c : Dev nD) (f : Fin 512 → EReal) :
    ∑ k : Fin 256, f (wrow c k) + ∑ k : Fin 256, f (wrow (pr c) k) = ∑ k, f k := by
  have hc := dev_lt c
  rw [sum_halves 256 512 rfl f ((c : ℕ) / 16) (by omega)]
  refine congrArg₂ (fun y z : EReal => y + z) rfl (Finset.sum_congr rfl fun k _ => congrArg f (Fin.ext ?_))
  show (pr c : ℕ) / 16 * 256 + (k : ℕ) = (1 - (c : ℕ) / 16) * 256 + k
  rw [other_block]

/-! ## The kernel's result in the whole arrays -/

open Cert.ReferenceIdeal.Soft (Arr sc result result_quot)

section Whole

variable (m : (ℓ : Loc nD τ sig) → Buf (Elt Ideal) ℓ) (Q K V : Arr)
  (hQ : ∀ c : Dev nD, m ((c : Thread nD τ).loc main_arg0) = cut c Q)
  (hK : ∀ c : Dev nD, m ((c : Thread nD τ).loc main_arg1) = cut c K)
  (hV : ∀ c : Dev nD, m ((c : Thread nD τ).loc main_arg2) = cut c V)

include hQ hK in
/-- The kernel's exponentials are those of the whole arrays' scores, at the rows of the two devices. -/
theorem ek_row (c c' : Dev nD) (b : Fin 4) (h : Fin 16) (i j : Fin 256) :
    ek ((insOf m).Q c) ((insOf m).K c') b h i j = Ideal.exp (sc Q K b h (wrow c i) (wrow c' j)) := by
  refine congrArg (fun z : EReal => Ideal.exp (z * c8)) (Finset.sum_congr rfl fun x _ => congrArg₂ (fun y z : EReal => y * z) ?_ ?_)
  · exact (Q_at m c b i h x).trans ((congrFun (hQ c) _).trans (cut_at c Q b i h x))
  · exact (K_at m c' b j h x).trans ((congrFun (hK c') _).trans (cut_at c' K b j h x))

include hV in
theorem V_row (c : Dev nD) (b : Fin 4) (h : Fin 16) (j : Fin 256) (d : Fin 64) :
    ((insOf m).V c (ix3 b j (lane h d)) : EReal) = V (ix4 b (wrow c j) h d) :=
  (V_at m c b j h d).trans ((congrFun (hV c) _).trans (cut_at c V b j h d))

include hQ hK hV in
/-- An entry of the region's result: the weighted sum of all values by the exponentials, over the sum of the exponentials. -/
theorem out_quot (c : Dev nD) (b : Fin 4) (i : Fin 256) (h : Fin 16) (d : Fin 64) :
    ((insOf m).out c (ix3 b i (lane h d)) : EReal)
      = Ideal.div (∑ k : Fin 512, Ideal.exp (sc Q K b h (wrow c i) k) * (V (ix4 b k h d) : EReal))
          (∑ k : Fin 512, Ideal.exp (sc Q K b h (wrow c i) k)) := by
  refine (OUT_at _ _ _ _ _ b i h d).trans ?_
  rw [← sum_rows c (fun k => Ideal.exp (sc Q K b h (wrow c i) k) * (V (ix4 b k h d) : EReal)),
    ← sum_rows c (fun k => Ideal.exp (sc Q K b h (wrow c i) k))]
  simp only [ek_row m Q K hQ hK, V_row m V hV]

end Whole

/-! ## Finite arrays -/

theorem real_of_lt (x : EReal) (h : max x (-x) < ⊤) : ∃ r : ℝ, x = (r : EReal) := by
  induction x with
  | bot => simp at h
  | coe r => exact ⟨r, rfl⟩
  | top => simp at h

/-- Finite queries and keys have finite scores. -/
theorem scores_real (Q K : Arr) (hQ : ∀ i, ∃ r : ℝ, (Q i : EReal) = (r : EReal)) (hK : ∀ i, ∃ r : ℝ, (K i : EReal) = (r : EReal))
    (b : Fin 4) (h : Fin 16) (q k : Fin 512) : ∃ s : ℝ, sc Q K b h q k = (s : EReal) := by
  choose f hf using hQ
  choose g hg using hK
  refine ⟨(∑ x : Fin 64, f (ix4 b q h x) * g (ix4 b k h x)) * (1 / 8), ?_⟩
  show (∑ x : Fin 64, (Q (ix4 b q h x) : EReal) * (K (ix4 b k h x) : EReal)) * c8 = _
  rw [c8_eq, EReal.coe_mul, ← sum_real]
  refine congrArg₂ (fun y z : EReal => y * z) (Finset.sum_congr rfl fun x _ => ?_) rfl
  rw [hf, hg, EReal.coe_mul]

instance : Subsingleton Cert.Pre_finite_KernelIdeal.S_.Idx := ⟨fun a b => funext fun i => i.elim0⟩

theorem preK : Cert.Pre_finite_KernelIdeal.Facts where
  bcast_S_S4x256x16x64 := by decide
  reducesTo_S4x256x16x64_S_d0_1_2_3 := by decide
  h_S_ := by decide
theorem preR : Cert.Pre_finite_ReferenceIdeal.Facts where
  bcast_S_S4x512x16x64 := by decide
  reducesTo_S4x512x16x64_S_d0_1_2_3 := by decide
  h_S_ := by decide

theorem lt_of_olt (x : FVec Ideal Cert.Pre_finite_KernelIdeal.S4x256x16x64 .f32) [hF : Cert.Pre_finite_KernelIdeal.Facts]
    (h : Host.reduce IntOp.andi (cmpf .olt (Host.absf x) (broadcastInDim Cert.Pre_finite_KernelIdeal.S4x256x16x64 ![]
        hF.bcast_S_S4x256x16x64 (constant Cert.Pre_finite_KernelIdeal.S_ .f32 0x7F800000#32)))
      (constantI Cert.Pre_finite_KernelIdeal.S_ 1 1#1) hF.reducesTo_S4x256x16x64_S_d0_1_2_3 hF.h_S_ ix0 = 1#1)
    (i : Cert.Pre_finite_KernelIdeal.S4x256x16x64.Idx) : ∃ r : ℝ, (x i : EReal) = (r : EReal) := by
  have h1 := Host.reduce_andi_all _ _ _ _ _ h i
  have ht : Ideal.ofBits .f32 0x7F800000#32 = ⊤ := by simp [Ideal.ofBits, Ideal.ieee]
  refine real_of_lt _ ?_
  rw [← ht]
  by_contra hn
  have h2 : BitVec.ofBool (decide (max (x i : EReal) (-(x i : EReal)) < Ideal.ofBits .f32 0x7F800000#32)) = 1#1 := h1
  rw [decide_eq_false hn] at h2
  exact absurd h2 (by decide)

/-- The precondition says that every device's queries and keys are real. -/
theorem args_real [Cert.Pre_finite_KernelIdeal.Facts] (m : (ℓ : Loc nD τ sig) → Buf (Elt Ideal) ℓ)
    (h : Cert.Pre_KernelIdeal_finite_KernelIdeal m) (c : Dev nD) :
    (∀ i, ∃ r : ℝ, (m ((c : Thread nD τ).loc main_arg0) i : EReal) = (r : EReal))
      ∧ ∀ i, ∃ r : ℝ, (m ((c : Thread nD τ).loc main_arg1) i : EReal) = (r : EReal) := by
  obtain ⟨h1, h2⟩ := IntOp.andi_eq_one.1 (congrFun (h c) ix0)
  exact ⟨fun i => lt_of_olt _ h1 i, fun i => lt_of_olt _ h2 i⟩

/-- An array whose blocks are all real is real. -/
theorem whole_real (x : (⟨4, ![4, 512, 16, 64]⟩ : Shape).Idx → EReal) (h : ∀ (c : Dev nD) i, ∃ r : ℝ, cut c x i = (r : EReal)) :
    ∀ i, ∃ r : ℝ, x i = (r : EReal) := by
  intro i
  obtain ⟨c, q, hq⟩ := row_onto (i 1)
  obtain ⟨r, hr⟩ := h c (ix4 (i 0) q (i 2) (i 3))
  refine ⟨r, ?_⟩
  refine Eq.trans ?_ hr
  refine Eq.trans ?_ (cut_at c x (i 0) q (i 2) (i 3)).symm
  exact congrArg x ((eq_ix4 i).trans (congrArg (fun z => ix4 (n0 := 4) (n1 := 512) (n2 := 16) (n3 := 64) (i 0) z (i 2) (i 3)) hq))

/-! ## The claim -/

/-- From finite queries and keys, each device's result is its block of the reference's result. -/
theorem algebraic [Cert.Pre_finite_KernelIdeal.Facts] : Cert.algebraic_KernelIdeal_ReferenceIdeal_pre_finite_KernelIdeal := by
  intro m g m' g' hpre hin
  have hQ := whole_real _ fun c i => by
    obtain ⟨r, hr⟩ := (args_real m hpre c).1 i
    exact ⟨r, (congrFun (hin c).1 i).symm.trans hr⟩
  have hK := whole_real _ fun c i => by
    obtain ⟨r, hr⟩ := (args_real m hpre c).2 i
    exact ⟨r, (congrFun (hin c).2.1 i).symm.trans hr⟩
  refine ⟨_, (θ_run Cert.KernelIdeal.defs _ _).mono (fun r hr c => ?_) (run_main m g),
    (θ_run Cert.ReferenceIdeal.defs _ _).mono (fun r hr => hr 0) (Cert.ReferenceIdeal.Soft.run_result m' g')⟩
  obtain ⟨h0, h1, h2, h8⟩ := hr.1 c
  refine ⟨h8.trans (funext fun i => ?_), h0.trans (arg0_kept m c), h1.trans (arg1_kept m c), h2.trans (arg2_kept m c)⟩
  choose s hs using scores_real _ _ hQ hK (i 0) (i 2) (wrow c (i 1))
  rw [eq_ix4 i]
  exact (out_at m c (i 0) (i 1) (i 2) (i 3)).trans ((out_quot m _ _ _ (fun c => (hin c).1) (fun c => (hin c).2.1) (fun c => (hin c).2.2)
    c (i 0) (i 1) (i 2) (i 3)).trans ((result_quot _ _ _ (i 0) (wrow c (i 1)) (i 2) (i 3) s hs).symm.trans
      (cut_at c _ (i 0) (i 1) (i 2) (i 3)).symm))

end Cert.KernelIdeal.Pair

end
-- ==== Proof.lean ====
module

public import proofs.«01_k».proof.Defs
public import proofs.«01_k».proof.Proof.Value

@[expose] public section

noncomputable section

namespace Cert.Proof

open Idealize.ShloMosaic Idealize.SL.Sem Cert.KernelIdeal.Pair

/-- All the claims of the certificate. -/
theorem claim : Cert.Claim :=
  haveI := preK
  haveI := preR
  ⟨Cert.Kernel.Gen.facts, Cert.KernelIdeal.Gen.facts, Cert.ReferenceIdeal.Gen.facts, preK, preR,
    frame_kernel, frame_ideal, fun m g _ => frame_ideal m g trivial,
    Cert.ReferenceIdeal.Soft.frame, fun m g _ => Cert.ReferenceIdeal.Soft.frame m g trivial, trivial, algebraic⟩

end Cert.Proof

end
